-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4096x128 : Shape := ⟨2, ![4096, 128]⟩
abbrev S32768x128 : Shape := ⟨2, ![32768, 128]⟩
abbrev S64 : Shape := ⟨1, ![64]⟩
abbrev S128x128 : Shape := ⟨2, ![128, 128]⟩
abbrev S128x64 : Shape := ⟨2, ![128, 64]⟩
abbrev S128 : Shape := ⟨1, ![128]⟩
abbrev S_ : Shape := ⟨0, ![]⟩

class Facts : Prop where
  bcast_S_S4096x128 : S_.BroadcastsInDim S4096x128 (![] : Fin 0 → Fin S4096x128.rank)
  bcast_S_S64 : S_.BroadcastsInDim S64 (![] : Fin 0 → Fin S64.rank)
  bcast_S_S128x128 : S_.BroadcastsInDim S128x128 (![] : Fin 0 → Fin S128x128.rank)
  bcast_S_S128x64 : S_.BroadcastsInDim S128x64 (![] : Fin 0 → Fin S128x64.rank)

variable [Facts]

def fn {F : FTy → Type} [FloatOps F] (main_arg0 : FVec F S4096x128 .f32) (main_arg1 : FVec F S32768x128 .f32) (main_arg2 : FVec F S64 .f32) (main_arg3 : FVec F S128x128 .f32) (main_arg4 : FVec F S128x64 .f32) (main_arg5 : FVec F S128 .f32) : IVec S4096x128 1 × IVec S64 1 × IVec S128x128 1 × IVec S128x64 1 × IVec S128x64 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_v3 : FVec F S64 .f32 := Host.absf main_arg2
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S128x128 .f32 := Host.absf main_arg3
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_cst_2 : FVec F S_ .f32 := constant S_ .f32 0xC1F80000#32
  let main_v9 : FVec F S128x64 .f32 := broadcastInDim S128x64 ![] bcast_S_S128x64 main_cst_2
  let main_v10 : IVec S128x64 1 := cmpf .oge main_arg4 main_v9
  let main_cst_3 : FVec F S_ .f32 := constant S_ .f32 0x7F800000#32
  let main_v11 : FVec F S128x64 .f32 := broadcastInDim S128x64 ![] bcast_S_S128x64 main_cst_3
  let main_v12 : IVec S128x64 1 := cmpf .olt main_arg4 main_v11
  (main_v2, main_v5, main_v8, main_v10, main_v12)
-- ==== Kernel.lean ====
abbrev S4096x128 : Shape := ⟨2, ![4096, 128]⟩
abbrev S32768x128 : Shape := ⟨2, ![32768, 128]⟩
abbrev S64 : Shape := ⟨1, ![64]⟩
abbrev S128x128 : Shape := ⟨2, ![128, 128]⟩
abbrev S128x64 : Shape := ⟨2, ![128, 64]⟩
abbrev S128 : Shape := ⟨1, ![128]⟩
abbrev S64x2 : Shape := ⟨2, ![64, 2]⟩
abbrev S1x128 : Shape := ⟨2, ![1, 128]⟩
abbrev S64x1 : Shape := ⟨2, ![64, 1]⟩
abbrev S128x64x2 : Shape := ⟨3, ![128, 64, 2]⟩
abbrev S4096x64x2 : Shape := ⟨3, ![4096, 64, 2]⟩
abbrev S4096x64x1 : Shape := ⟨3, ![4096, 64, 1]⟩
abbrev S4096x64 : Shape := ⟨2, ![4096, 64]⟩
abbrev S64x4096 : Shape := ⟨2, ![64, 4096]⟩
abbrev S128x64x1 : Shape := ⟨3, ![128, 64, 1]⟩
abbrev S64x128 : Shape := ⟨2, ![64, 128]⟩
abbrev S8192x128 : Shape := ⟨2, ![8192, 128]⟩
abbrev S64x1024 : Shape := ⟨2, ![64, 1024]⟩
abbrev S1024x128 : Shape := ⟨2, ![1024, 128]⟩
abbrev S64x1x1024 : Shape := ⟨3, ![64, 1, 1024]⟩
abbrev S64x4x1024 : Shape := ⟨3, ![64, 4, 1024]⟩
abbrev S64x1x128 : Shape := ⟨3, ![64, 1, 128]⟩
abbrev S64x4x128 : Shape := ⟨3, ![64, 4, 128]⟩
abbrev S64x1024x128 : Shape := ⟨3, ![64, 1024, 128]⟩

abbrev nBuf : Space → Nat
  | .hbm => 39
  | .vmem => 20
  | .smem => 0
  | _ => 0

abbrev bufTy : (tb : Table) → Fin (tcTables nBuf tb) → BufTy
  | .hbm, ⟨0, _⟩ => ⟨S4096x128, .f32⟩
  | .hbm, ⟨1, _⟩ => ⟨S32768x128, .f32⟩
  | .hbm, ⟨2, _⟩ => ⟨S64, .f32⟩
  | .hbm, ⟨3, _⟩ => ⟨S128x128, .f32⟩
  | .hbm, ⟨4, _⟩ => ⟨S128x64, .f32⟩
  | .hbm, ⟨5, _⟩ => ⟨S128, .f32⟩
  | .hbm, ⟨6, _⟩ => ⟨S64, .f32⟩
  | .hbm, ⟨7, _⟩ => ⟨S64, .f32⟩
  | .hbm, ⟨8, _⟩ => ⟨S64x2, .f32⟩
  | .hbm, ⟨9, _⟩ => ⟨S128, .f32⟩
  | .hbm, ⟨10, _⟩ => ⟨S1x128, .f32⟩
  | .hbm, ⟨11, _⟩ => ⟨S64, .f32⟩
  | .hbm, ⟨12, _⟩ => ⟨S64x1, .f32⟩
  | .hbm, ⟨13, _⟩ => ⟨S64x1, .f32⟩
  | .hbm, ⟨14, _⟩ => ⟨S64x2, .f32⟩
  | .hbm, ⟨15, _⟩ => ⟨S1x128, .f32⟩
  | .hbm, ⟨16, _⟩ => ⟨S128x64x2, .f32⟩
  | .hbm, ⟨17, _⟩ => ⟨S128x64x2, .f32⟩
  | .hbm, ⟨18, _⟩ => ⟨S128x128, .f32⟩
  | .hbm, ⟨19, _⟩ => ⟨S4096x64x2, .f32⟩
  | .hbm, ⟨20, _⟩ => ⟨S4096x64x1, .f32⟩
  | .hbm, ⟨21, _⟩ => ⟨S4096x64, .f32⟩
  | .hbm, ⟨22, _⟩ => ⟨S64x4096, .f32⟩
  | .hbm, ⟨23, _⟩ => ⟨S4096x64x1, .f32⟩
  | .hbm, ⟨24, _⟩ => ⟨S4096x64, .f32⟩
  | .hbm, ⟨25, _⟩ => ⟨S64x4096, .f32⟩
  | .hbm, ⟨26, _⟩ => ⟨S128x64x2, .f32⟩
  | .hbm, ⟨27, _⟩ => ⟨S128x64x1, .f32⟩
  | .hbm, ⟨28, _⟩ => ⟨S128x64, .f32⟩
  | .hbm, ⟨29, _⟩ => ⟨S64x128, .f32⟩
  | .hbm, ⟨30, _⟩ => ⟨S128x64x1, .f32⟩
  | .hbm, ⟨31, _⟩ => ⟨S128x64, .f32⟩
  | .hbm, ⟨32, _⟩ => ⟨S64x128, .f32⟩
  | .hbm, ⟨33, _⟩ => ⟨S64x1, .f32⟩
  | .hbm, ⟨34, _⟩ => ⟨S64x1, .f32⟩
  | .hbm, ⟨35, _⟩ => ⟨S64x128, .f32⟩
  | .hbm, ⟨36, _⟩ => ⟨S1x128, .f32⟩
  | .hbm, ⟨37, _⟩ => ⟨S32768x128, .f32⟩
  | .hbm, ⟨38, _⟩ => ⟨S4096x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x128, .f32⟩
  | .local _ .vmem, ⟨11, _⟩ => ⟨S64x128, .f32⟩
  | .local _ .vmem, ⟨12, _⟩ => ⟨S64x1, .f32⟩
  | .local _ .vmem, ⟨13, _⟩ => ⟨S64x1, .f32⟩
  | .local _ .vmem, ⟨14, _⟩ => ⟨S64x128, .f32⟩
  | .local _ .vmem, ⟨15, _⟩ => ⟨S1x128, .f32⟩
  | .local _ .vmem, ⟨16, _⟩ => ⟨S8192x128, .f32⟩
  | .local _ .vmem, ⟨17, _⟩ => ⟨S8192x128, .f32⟩
  | .local _ .vmem, ⟨18, _⟩ => ⟨S1024x128, .f32⟩
  | .local _ .vmem, ⟨19, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22 : Ref sig .tc := ⟨.hbm, 28, rfl⟩
abbrev main_call0_v23 : Ref sig .tc := ⟨.hbm, 29, rfl⟩
abbrev main_call0_v24 : Ref sig .tc := ⟨.hbm, 30, rfl⟩
abbrev main_call0_v25 : Ref sig .tc := ⟨.hbm, 31, rfl⟩
abbrev main_call0_v26 : Ref sig .tc := ⟨.hbm, 32, rfl⟩
abbrev main_call0_v27 : Ref sig .tc := ⟨.hbm, 33, rfl⟩
abbrev main_call0_v28 : Ref sig .tc := ⟨.hbm, 34, rfl⟩
abbrev main_call0_v29 : Ref sig .tc := ⟨.hbm, 35, rfl⟩
abbrev main_call0_v30 : Ref sig .tc := ⟨.hbm, 36, rfl⟩
abbrev main_v0_1 : Ref sig .tc := ⟨.hbm, 37, rfl⟩
abbrev main_v0_0 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8192x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4096x128 : Shape := ⟨2, ![4096, 128]⟩
abbrev S32768x128 : Shape := ⟨2, ![32768, 128]⟩
abbrev S64 : Shape := ⟨1, ![64]⟩
abbrev S128x128 : Shape := ⟨2, ![128, 128]⟩
abbrev S128x64 : Shape := ⟨2, ![128, 64]⟩
abbrev S128 : Shape := ⟨1, ![128]⟩
abbrev S128x64x2 : Shape := ⟨3, ![128, 64, 2]⟩
abbrev S128x64x1 : Shape := ⟨3, ![128, 64, 1]⟩
abbrev S1x64 : Shape := ⟨2, ![1, 64]⟩
abbrev S4096x64x2 : Shape := ⟨3, ![4096, 64, 2]⟩
abbrev S1x128x64x2 : Shape := ⟨4, ![1, 128, 64, 2]⟩
abbrev S4096x1x64x2 : Shape := ⟨4, ![4096, 1, 64, 2]⟩
abbrev S4096x128x64x2 : Shape := ⟨4, ![4096, 128, 64, 2]⟩
abbrev S_ : Shape := ⟨0, ![]⟩
abbrev S4096x128x64 : Shape := ⟨3, ![4096, 128, 64]⟩
abbrev S1x128x64 : Shape := ⟨3, ![1, 128, 64]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S32768x128, .f32⟩
  | .hbm, ⟨2, _⟩ => ⟨S64, .f32⟩
  | .hbm, ⟨3, _⟩ => ⟨S128x128, .f32⟩
  | .hbm, ⟨4, _⟩ => ⟨S128x64, .f32⟩
  | .hbm, ⟨5, _⟩ => ⟨S128, .f32⟩
  | .hbm, ⟨6, _⟩ => ⟨S64, .f32⟩
  | .hbm, ⟨7, _⟩ => ⟨S64, .f32⟩
  | .hbm, ⟨8, _⟩ => ⟨S128x64x2, .f32⟩
  | .hbm, ⟨9, _⟩ => ⟨S128x64x1, .f32⟩
  | .hbm, ⟨10, _⟩ => ⟨S128x64, .f32⟩
  | .hbm, ⟨11, _⟩ => ⟨S1x64, .f32⟩
  | .hbm, ⟨12, _⟩ => ⟨S128x64, .f32⟩
  | .hbm, ⟨13, _⟩ => ⟨S128x64, .f32⟩
  | .hbm, ⟨14, _⟩ => ⟨S128x64x1, .f32⟩
  | .hbm, ⟨15, _⟩ => ⟨S128x64, .f32⟩
  | .hbm, ⟨16, _⟩ => ⟨S1x64, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x64x1, .f32⟩
  | .hbm, ⟨21, _⟩ => ⟨S128x64, .f32⟩
  | .hbm, ⟨22, _⟩ => ⟨S1x64, .f32⟩
  | .hbm, ⟨23, _⟩ => ⟨S128x64, .f32⟩
  | .hbm, ⟨24, _⟩ => ⟨S128x64, .f32⟩
  | .hbm, ⟨25, _⟩ => ⟨S128x64x1, .f32⟩
  | .hbm, ⟨26, _⟩ => ⟨S128x64, .f32⟩
  | .hbm, ⟨27, _⟩ => ⟨S1x64, .f32⟩
  | .hbm, ⟨28, _⟩ => ⟨S128x64, .f32⟩
  | .hbm, ⟨29, _⟩ => ⟨S128x64, .f32⟩
  | .hbm, ⟨30, _⟩ => ⟨S128x64, .f32⟩
  | .hbm, ⟨31, _⟩ => ⟨S128x64x1, .f32⟩
  | .hbm, ⟨32, _⟩ => ⟨S128x64x1, .f32⟩
  | .hbm, ⟨33, _⟩ => ⟨S128x64x2, .f32⟩
  | .hbm, ⟨34, _⟩ => ⟨S128x128, .f32⟩
  | .hbm, ⟨35, _⟩ => ⟨S128x128, .f32⟩
  | .hbm, ⟨36, _⟩ => ⟨S32768x128, .f32⟩
  | .hbm, ⟨37, _⟩ => ⟨S4096x64x2, .f32⟩
  | .hbm, ⟨38, _⟩ => ⟨S128x64x2, .f32⟩
  | .hbm, ⟨39, _⟩ => ⟨S1x128x64x2, .f32⟩
  | .hbm, ⟨40, _⟩ => ⟨S4096x1x64x2, .f32⟩
  | .hbm, ⟨41, _⟩ => ⟨S4096x128x64x2, .f32⟩
  | .hbm, ⟨42, _⟩ => ⟨S4096x128x64x2, .f32⟩
  | .hbm, ⟨43, _⟩ => ⟨S4096x128x64x2, .f32⟩
  | .hbm, ⟨44, _⟩ => ⟨S4096x128x64x2, .f32⟩
  | .hbm, ⟨45, _⟩ => ⟨S_, .f32⟩
  | .hbm, ⟨46, _⟩ => ⟨S4096x128x64, .f32⟩
  | .hbm, ⟨47, _⟩ => ⟨S_, .f32⟩
  | .hbm, ⟨48, _⟩ => ⟨S4096x128x64, .f32⟩
  | .hbm, ⟨49, _⟩ => ⟨S4096x128x64, .f32⟩
  | .hbm, ⟨50, _⟩ => ⟨S4096x128x64, .f32⟩
  | .hbm, ⟨51, _⟩ => ⟨S_, .f32⟩
  | .hbm, ⟨52, _⟩ => ⟨S128x64, .f32⟩
  | .hbm, ⟨53, _⟩ => ⟨S128x64, .f32⟩
  | .hbm, ⟨54, _⟩ => ⟨S128x64, .f32⟩
  | .hbm, ⟨55, _⟩ => ⟨S128x64, .f32⟩
  | .hbm, ⟨56, _⟩ => ⟨S128x64, .i1⟩
  | .hbm, ⟨57, _⟩ => ⟨S128x64, .f32⟩
  | .hbm, ⟨58, _⟩ => ⟨S128x64, .f32⟩
  | .hbm, ⟨59, _⟩ => ⟨S128x64, .f32⟩
  | .hbm, ⟨60, _⟩ => ⟨S128x64, .f32⟩
  | .hbm, ⟨61, _⟩ => ⟨S128x64, .f32⟩
  | .hbm, ⟨62, _⟩ => ⟨S128x64, .f32⟩
  | .hbm, ⟨63, _⟩ => ⟨S128x64, .f32⟩
  | .hbm, ⟨64, _⟩ => ⟨S128x64, .f32⟩
  | .hbm, ⟨65, _⟩ => ⟨S128x64, .f32⟩
  | .hbm, ⟨66, _⟩ => ⟨S1x128x64, .f32⟩
  | .hbm, ⟨67, _⟩ => ⟨S4096x128x64, .f32⟩
  | .hbm, ⟨68, _⟩ => ⟨S4096x128x64, .f32⟩
  | .hbm, ⟨69, _⟩ => ⟨S_, .f32⟩
  | .hbm, ⟨70, _⟩ => ⟨S4096x128, .f32⟩
  | .hbm, ⟨71, _⟩ => ⟨S1x128, .f32⟩
  | .hbm, ⟨72, _⟩ => ⟨S4096x128, .f32⟩
  | .hbm, ⟨73, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst : Ref sig .tc := ⟨.hbm, 45, rfl⟩
abbrev main_v39 : Ref sig .tc := ⟨.hbm, 46, rfl⟩
abbrev main_cst_0 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_1 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Proof.Terms.lean ====
/-
  The arithmetic of one frequency's contribution to a query logit, on extended reals and then on reals.

  The kernel expands the square of the scaled distance, clamps it from below and multiplies it by its reciprocal
  square root; the reference takes the square root of the distance and scales it by a softplus. `kernelTerm_coe` and
  `referenceTerm_coe` say what each is at finite operands, and `bias_sub_sum` adds the 64 contributions up: the kernel
  subtracts their sum from the bias, the reference adds the negated ones to it.
-/
module

public import Idealize.ShloMosaic.PureOps.Ideal.Laws
public import Mathlib.Analysis.SpecialFunctions.Log.Basic
public import Mathlib.Analysis.Complex.Exponential

@[expose] public section

noncomputable section

open Idealize.ShloMosaic

namespace Cert.Terms

/-! ## The literals -/

/-- The offset under the square root (about 1e-8), the same word in both programs. -/
abbrev eps : EReal := Ideal.ofBits .f32 0x322BCC77#32

/-- The kernel's lower clamp of the scaled square (about 1e-35). -/
abbrev tiny : EReal := Ideal.ofBits .f32 0x0554AD2E#32

/-- The offset as a real number. -/
def epsR : ℝ := 11258999 / 2 ^ 50

/-- The clamp as a real number. -/
def tinyR : ℝ := 13937966 / 2 ^ 140

/-- The offset's word denotes `epsR`. -/
theorem eps_eq : eps = (epsR : EReal) := by
  simp [eps, epsR, Ideal.ofBits, Ideal.ieee, -EReal.coe_mul]; norm_num

/-- The clamp's word denotes `tinyR`. -/
theorem tiny_eq : tiny = (tinyR : EReal) := by
  simp [tiny, tinyR, Ideal.ofBits, Ideal.ieee, -EReal.coe_mul]; norm_num

/-- The word of minus two denotes it. -/
theorem neg_two_eq : Ideal.ofBits .f32 0xC0000000#32 = ((-2 : ℝ) : EReal) := by
  simp [Ideal.ofBits, Ideal.ieee, -EReal.coe_mul]; norm_num

/-- The word of one denotes it. -/
theorem one_eq : Ideal.ofBits .f32 0x3F800000#32 = ((1 : ℝ) : EReal) := by
  simp [Ideal.ofBits, Ideal.ieee, -EReal.coe_mul]; norm_num

/-- The word of minus thirty-one denotes it. -/
theorem neg_31_eq : Ideal.ofBits .f32 0xC1F80000#32 = ((-31 : ℝ) : EReal) := by
  simp [Ideal.ofBits, Ideal.ieee, -EReal.coe_mul]; norm_num

/-- The word of plus infinity denotes it. -/
theorem top_eq : Ideal.ofBits .f32 0x7F800000#32 = (⊤ : EReal) := by
  simp [Ideal.ofBits, Ideal.ieee]

/-! ## Softplus -/

/-- `log (1 + exp x)`, spelled with an exponential that never overflows. -/
def softplus (x : ℝ) : ℝ := max x 0 + Real.log (1 + Real.exp (-|x|))

/-- The spelling is `log (1 + exp x)`. -/
theorem softplus_eq (x : ℝ) : softplus x = Real.log (1 + Real.exp x) := by
  unfold softplus
  rcases le_total x 0 with h | h
  · rw [max_eq_right h, abs_of_nonpos h, neg_neg, zero_add]
  · rw [max_eq_left h, abs_of_nonneg h]
    have e : (1 : ℝ) + Real.exp x = Real.exp x * (1 + Real.exp (-x)) := by
      rw [mul_add, mul_one, ← Real.exp_add, add_neg_cancel, Real.exp_zero, add_comm]
    rw [e, Real.log_mul (Real.exp_pos x).ne' (by positivity), Real.log_exp]

/-- From minus thirty-one on, softplus is at least `1 / (e^31 + 1)`. -/
theorem softplus_ge {x : ℝ} (hx : -31 ≤ x) : (Real.exp 31 + 1)⁻¹ ≤ softplus x := by
  rw [softplus_eq]
  have hpos : 0 < 1 + Real.exp x := by positivity
  have h1 : 1 - (1 + Real.exp x)⁻¹ ≤ Real.log (1 + Real.exp x) := Real.one_sub_inv_le_log_of_pos hpos
  have h2 : Real.exp (-31) ≤ Real.exp x := Real.exp_le_exp.mpr hx
  have h3 : (1 + Real.exp x)⁻¹ ≤ (1 + Real.exp (-31))⁻¹ := inv_anti₀ (by positivity) (by linarith)
  have h4 : (Real.exp 31 + 1)⁻¹ = 1 - (1 + Real.exp (-31))⁻¹ := by
    rw [Real.exp_neg]
    have : 0 < Real.exp 31 := Real.exp_pos _
    field_simp
    ring
  linarith

/-- The exponential at one, from its first eight Taylor terms. -/
theorem exp_one_le : Real.exp 1 ≤ 2.71829 := by
  have h := Real.exp_bound' (x := 1) zero_le_one le_rfl (n := 8) (by norm_num)
  refine h.trans ?_
  norm_num [Finset.sum_range_succ, Nat.factorial]

/-- The exponential at thirty-one is below `3 · 10^13`. -/
theorem exp_31_lt : Real.exp 31 + 1 < 3 * 10 ^ 13 := by
  have h : Real.exp 31 = Real.exp 1 ^ 31 := by rw [← Real.exp_nat_mul]; norm_num
  have h2 : Real.exp 1 ^ 31 ≤ (2.71829 : ℝ) ^ 31 := pow_le_pow_left₀ (Real.exp_pos 1).le exp_one_le 31
  have h3 : (2.71829 : ℝ) ^ 31 + 1 < 3 * 10 ^ 13 := by norm_num
  rw [h]; linarith

/-- So from minus thirty-one on the clamp is below the square of softplus times the offset. -/
theorem tiny_le {x : ℝ} (hx : -31 ≤ x) : tinyR ≤ softplus x * softplus x * epsR := by
  have h1 := softplus_ge hx
  have h0 : (0 : ℝ) < Real.exp 31 + 1 := by positivity
  have h2 : ((3 : ℝ) * 10 ^ 13)⁻¹ ≤ softplus x := (inv_anti₀ h0 exp_31_lt.le).trans h1
  have h3 : ((3 : ℝ) * 10 ^ 13)⁻¹ * ((3 : ℝ) * 10 ^ 13)⁻¹ ≤ softplus x * softplus x :=
    mul_le_mul h2 h2 (by positivity) (le_trans (by positivity) h2)
  have h4 : tinyR ≤ ((3 : ℝ) * 10 ^ 13)⁻¹ * ((3 : ℝ) * 10 ^ 13)⁻¹ * epsR := by
    unfold tinyR epsR; norm_num
  exact h4.trans (mul_le_mul_of_nonneg_right h3 (by unfold epsR; norm_num))

/-- Softplus is positive from minus thirty-one on. -/
theorem softplus_pos {x : ℝ} (hx : -31 ≤ x) : 0 < softplus x :=
  lt_of_lt_of_le (by positivity) (softplus_ge hx)

/-! ## The two programs' terms -/

/-- The kernel's weight: minus softplus, as its operations spell it. -/
def kernelWeight (x : EReal) : EReal := 0 - (max x 0 + Ideal.log1p (Ideal.exp (0 - max x (-x))))

/-- The kernel's clamped square of the scaled distance, the square expanded into four products. -/
def kernelSquare (px py qx qy x : EReal) : EReal :=
  max (qx * ((((-2 : ℝ) : EReal) * px) * (kernelWeight x * kernelWeight x))
      + qy * ((((-2 : ℝ) : EReal) * py) * (kernelWeight x * kernelWeight x))
      + (qx * qx + qy * qy) * (kernelWeight x * kernelWeight x)
      + ((1 : ℝ) : EReal) * ((px * px + py * py + eps) * (kernelWeight x * kernelWeight x))) tiny

/-- What the kernel adds up over the frequencies: the clamped square times its reciprocal square root. -/
def kernelTerm (px py qx qy x : EReal) : EReal :=
  kernelSquare px py qx qy x * Ideal.rsqrt (kernelSquare px py qx qy x)

/-- What the reference adds up over the frequencies: the distance times minus softplus. -/
def referenceTerm (px py qx qy x : EReal) : EReal :=
  Ideal.sqrt (((px - qx) * (px - qx) + (py - qy) * (py - qy)) + eps)
    * -(max x 0 + Ideal.log1p (Ideal.exp (-max x (-x))))

/-- `log1p ∘ exp` at a real number. -/
theorem log1p_exp_coe (y : ℝ) : Ideal.log1p (Ideal.exp (y : EReal)) = ((Real.log (1 + Real.exp y) : ℝ) : EReal) := by
  have h : ¬ (1 + Real.exp y ≤ 0) := by have := Real.exp_pos y; linarith
  rw [Ideal.exp_coe]
  unfold Ideal.log1p
  rw [← EReal.coe_one, ← EReal.coe_add, Ideal.log_coe, if_neg h]

/-- The larger of two real numbers, as extended reals. -/
theorem max_coe (a b : ℝ) : max (a : EReal) (b : EReal) = ((max a b : ℝ) : EReal) :=
  (EReal.coe_strictMono.monotone.map_max).symm

/-- Both programs' unnegated softplus at a real number. -/
theorem softplus_coe (x : ℝ) :
    max (x : EReal) 0 + Ideal.log1p (Ideal.exp (-max (x : EReal) (-(x : EReal)))) = (softplus x : EReal) := by
  rw [← EReal.coe_neg, max_coe, ← EReal.coe_neg, log1p_exp_coe, ← EReal.coe_zero, max_coe, ← EReal.coe_add]
  rfl

/-- The kernel's weight at a real number is minus softplus. -/
theorem kernelWeight_coe (x : ℝ) : kernelWeight (x : EReal) = ((-softplus x : ℝ) : EReal) := by
  unfold kernelWeight
  rw [zero_sub, zero_sub, softplus_coe, ← EReal.coe_neg]

/-- The distance under the square root. -/
def dist2 (px py qx qy : ℝ) : ℝ := (px - qx) * (px - qx) + (py - qy) * (py - qy) + epsR

/-- It is at least the offset, -/
theorem eps_le_dist2 (px py qx qy : ℝ) : epsR ≤ dist2 px py qx qy := by
  unfold dist2
  have := mul_self_nonneg (px - qx)
  have := mul_self_nonneg (py - qy)
  linarith

/-- and so positive. -/
theorem dist2_pos (px py qx qy : ℝ) : 0 < dist2 px py qx qy :=
  lt_of_lt_of_le (by unfold epsR; norm_num) (eps_le_dist2 px py qx qy)

/-- At finite operands, the raw weight at least minus thirty-one, the clamp does nothing and the expanded square is the
    squared distance times the squared softplus. -/
theorem kernelSquare_coe (px py qx qy : ℝ) {x : ℝ} (hx : -31 ≤ x) :
    kernelSquare px py qx qy x = ((softplus x * softplus x * dist2 px py qx qy : ℝ) : EReal) := by
  unfold kernelSquare
  rw [kernelWeight_coe, eps_eq, tiny_eq]
  simp only [← EReal.coe_mul, ← EReal.coe_add, max_coe]
  refine congrArg _ ?_
  rw [max_eq_left]
  · unfold dist2; ring
  · have h : softplus x * softplus x * epsR ≤ softplus x * softplus x * dist2 px py qx qy :=
      mul_le_mul_of_nonneg_left (eps_le_dist2 px py qx qy) (mul_self_nonneg _)
    refine ((tiny_le hx).trans h).trans (le_of_eq ?_)
    unfold dist2; ring

/-- So the kernel's term is softplus times the distance, -/
theorem kernelTerm_coe (px py qx qy : ℝ) {x : ℝ} (hx : -31 ≤ x) :
    kernelTerm px py qx qy x = ((softplus x * Real.sqrt (dist2 px py qx qy) : ℝ) : EReal) := by
  have hs := softplus_pos hx
  have hd := dist2_pos px py qx qy
  have hpos : 0 < softplus x * softplus x * dist2 px py qx qy := by positivity
  unfold kernelTerm
  rw [kernelSquare_coe px py qx qy hx, Ideal.rsqrt_coe, if_neg hpos.le.not_gt, if_neg hpos.ne', ← EReal.coe_mul]
  refine congrArg _ ?_
  have h1 : Real.sqrt (softplus x * softplus x * dist2 px py qx qy) = softplus x * Real.sqrt (dist2 px py qx qy) := by
    rw [Real.sqrt_mul (mul_self_nonneg _), Real.sqrt_mul_self hs.le]
  have h2 : Real.sqrt (dist2 px py qx qy) ≠ 0 := (Real.sqrt_pos.mpr hd).ne'
  have h3 := Real.mul_self_sqrt hd.le
  rw [h1]
  have h4 := hs.ne'
  field_simp
  rw [sq, h3]

/-- and the reference's is its negative. -/
theorem referenceTerm_coe (px py qx qy x : ℝ) :
    referenceTerm px py qx qy x = ((-(softplus x * Real.sqrt (dist2 px py qx qy)) : ℝ) : EReal) := by
  unfold referenceTerm
  rw [softplus_coe, eps_eq]
  simp only [← EReal.coe_sub, ← EReal.coe_mul, ← EReal.coe_add, ← EReal.coe_neg]
  rw [Ideal.sqrt_coe]
  have hd := dist2_pos px py qx qy
  unfold dist2 at hd ⊢
  rw [if_neg hd.le.not_gt, ← EReal.coe_mul]
  refine congrArg _ ?_
  ring

/-! ## The sum over the frequencies -/

/-- A sum of real numbers, as extended reals. -/
theorem coe_sum {ι : Type} (s : Finset ι) (f : ι → ℝ) : ∑ k ∈ s, (f k : EReal) = ((∑ k ∈ s, f k : ℝ) : EReal) := by
  classical
  induction s using Finset.induction_on with
  | empty => simp
  | insert a t h ih => rw [Finset.sum_insert h, Finset.sum_insert h, ih, EReal.coe_add]

/-- Taking real contributions from a bias is adding their negatives to it, whatever the bias. -/
theorem bias_sub_sum {ι : Type} [Fintype ι] (b : EReal) (f : ι → ℝ) :
    b - ∑ k, (f k : EReal) = ∑ k, ((-f k : ℝ) : EReal) + b := by
  rw [coe_sum, coe_sum, Finset.sum_neg_distrib, EReal.coe_neg, sub_eq_add_neg, add_comm]

/-- A finite extended real is a real number. -/
theorem exists_coe {a : EReal} (h : max a (-a) < ⊤) : ∃ r : ℝ, a = r := by
  induction a with
  | bot => simp at h
  | coe r => exact ⟨r, rfl⟩
  | top => simp at h

end Cert.Terms
-- ==== Proof.BlockValue.lean ====
/-
  What one grid point of the kernel computes, read at an index, as a function of the blocks it is given.

  The key block is a product of the keys with the rotated probes. The query block is the bias less a sum over the pairs
  of `kernelTerm`, whose square is a product of four-long columns.
-/
module

public import proofs.«01_k».proof.Proof.Gen.KernelIdeal.Value
public import proofs.«01_k».proof.Proof.Terms
public import Idealize.ShloMosaic.Lib.Pipeline.Value
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.KernelIdeal.BlockValue

open Cert.KernelIdeal Cert.KernelIdeal.Gen Cert.Terms

/-- The key block at key `i` and probe `b`: the key times the rotated probe, summed over the coordinates. -/
theorem keyBlock_apply (p s : FVec Ideal S128x128 .f32) (cr sr : FVec Ideal S1x128 .f32) (k : FVec Ideal S8192x128 .f32)
    (i : Fin 8192) (b : Fin 128) :
    k0_pay2 p cr s sr k (ix2 i b)
      = ∑ d : Fin 128, k (ix2 i d) * (p (ix2 b d) * cr (ix2 0 d) + s (ix2 b d) * sr (ix2 0 d)) := by
  unfold k0_pay2
  pointwise

/-- The query block at query `n` and probe `b`: the bias less the sum over the pairs of the weighted distance between the
rotated probe and the query. -/
theorem queryBlock_apply (cc sc : FVec Ideal S64x1 .f32) (px py w : FVec Ideal S64x128 .f32)
    (qx qy : FVec Ideal S64x1024 .f32) (bias : FVec Ideal S1x128 .f32) (n : Fin 1024) (b : Fin 128) :
    k0_pay1 (k0_pay10 (k0_pay7 cc sc px py) (k0_pay8 cc sc px py) (k0_pay9 w) qx qy) (k0_pay11 bias) (ix2 n b)
      = bias (ix2 0 b) - ∑ f : Fin 64, kernelTerm
          (px (ix2 f b) * cc (ix2 f 0) - py (ix2 f b) * sc (ix2 f 0))
          (px (ix2 f b) * sc (ix2 f 0) + py (ix2 f b) * cc (ix2 f 0))
          (qx (ix2 f n)) (qy (ix2 f n)) (w (ix2 f b)) := by
  unfold k0_pay1 k0_pay10 k0_pay7 k0_pay8 k0_pay9 k0_pay11 k0_pay3 k0_pay4 k0_pay5 k0_pay6
  pointwise
  simp only [Fin.sum_univ_four, neg_two_eq]
  refine congrArg _ (Finset.sum_congr rfl fun f _ => ?_)
  unfold kernelTerm kernelSquare kernelWeight
  have habs (a : EReal) : FloatOps.absf (F := Ideal) (φ := .f32) a = max a (-a) := rfl
  simp [habs, eps, tiny]

end Cert.KernelIdeal.BlockValue
-- ==== Proof.Spec.lean ====
/-
  What the two results are, as plain formulas on the argument arrays read at an index.

  A probe's 128 coordinates are 64 pairs; pair `f` is turned in its plane by angle `f`. A key's score is its inner product
  with the turned probe. A query's score is the bias less a sum over the pairs of weight times distance between the
  turned probe and the query; the kernel and the reference write that sum differently, so it has two formulas here.
-/
module

public import proofs.«01_k».proof.Proof.Terms
public import Idealize.ShloMosaic.Lib.Pointwise
public import Idealize.ShloMosaic.PureOps.Ideal.Laws

@[expose] public section

noncomputable section

open Idealize.ShloMosaic Cert.Terms

namespace Cert.Pairs

/-- The even coordinate of pair `f`. -/
abbrev even (f : Fin 64) : Fin 128 := ⟨f.val * 2, by omega⟩

/-- The odd coordinate of pair `f`. -/
abbrev odd (f : Fin 64) : Fin 128 := ⟨f.val * 2 + 1, by omega⟩

/-- The pair of coordinate `d`. -/
abbrev half (d : Fin 128) : Fin 64 := ⟨d.val / 2, by omega⟩

end Cert.Pairs

namespace Cert.Spec

open Cert.Pairs

variable (query : FVec Ideal ⟨2, ![4096, 128]⟩ .f32) (key : FVec Ideal ⟨2, ![32768, 128]⟩ .f32)
  (angle : FVec Ideal ⟨1, ![64]⟩ .f32) (probe : FVec Ideal ⟨2, ![128, 128]⟩ .f32)
  (raw : FVec Ideal ⟨2, ![128, 64]⟩ .f32) (bias : FVec Ideal ⟨1, ![128]⟩ .f32)

/-- The first coordinate of pair `f` of the turned probe `b`. -/
def rotX (b : Fin 128) (f : Fin 64) : EReal :=
  probe (ix2 b (even f)) * Ideal.cos (angle (ix1 f)) - probe (ix2 b (odd f)) * Ideal.sin (angle (ix1 f))

/-- The second coordinate of pair `f` of the turned probe `b`. -/
def rotY (b : Fin 128) (f : Fin 64) : EReal :=
  probe (ix2 b (even f)) * Ideal.sin (angle (ix1 f)) + probe (ix2 b (odd f)) * Ideal.cos (angle (ix1 f))

/-- Coordinate `d` of the turned probe `b`. -/
def rot (b d : Fin 128) : EReal := if d.val % 2 = 0 then rotX angle probe b (half d) else rotY angle probe b (half d)

/-- An even coordinate of the turned probe is its pair's first. -/
theorem rot_even (b : Fin 128) (f : Fin 64) : rot angle probe b (even f) = rotX angle probe b f := by
  have e : half (even f) = f := Fin.ext (by show f.val * 2 / 2 = f.val; omega)
  unfold rot
  rw [if_pos (by show f.val * 2 % 2 = 0; omega), e]

/-- An odd coordinate of the turned probe is its pair's second. -/
theorem rot_odd (b : Fin 128) (f : Fin 64) : rot angle probe b (odd f) = rotY angle probe b f := by
  have e : half (odd f) = f := Fin.ext (by show (f.val * 2 + 1) / 2 = f.val; omega)
  unfold rot
  rw [if_neg (by show ¬(f.val * 2 + 1) % 2 = 0; omega), e]

/-- A coordinate of the turned probe from one row of cosines and one of signed sines: the probe's coordinate times the
cosine, plus its pair's other coordinate times the sine, negated on the even coordinates. -/
theorem rot_eq (b d : Fin 128) :
    probe (ix2 b d) * Ideal.cos (angle (ix1 (half d)))
      + (if d.val % 2 = 0 then probe (ix2 b (odd (half d))) else probe (ix2 b (even (half d))))
        * (if d.val % 2 = 0 then -Ideal.sin (angle (ix1 (half d))) else Ideal.sin (angle (ix1 (half d))))
      = rot angle probe b d := by
  unfold rot rotX rotY
  rcases Nat.mod_two_eq_zero_or_one d.val with h | h
  · have e : even (half d) = d := Fin.ext (by show d.val / 2 * 2 = d.val; omega)
    rw [if_pos h, if_pos h, if_pos h, e, mul_neg, sub_eq_add_neg]
  · have hn : ¬d.val % 2 = 0 := by omega
    have e : odd (half d) = d := Fin.ext (by show d.val / 2 * 2 + 1 = d.val; omega)
    rw [if_neg hn, if_neg hn, if_neg hn, e, add_comm]

/-- The score of key `i` for probe `b`. -/
def keyScore (i : Fin 32768) (b : Fin 128) : EReal := ∑ d : Fin 128, key (ix2 i d) * rot angle probe b d

/-- The score of query `n` for probe `b`, as the kernel computes it. -/
def kernelScore (n : Fin 4096) (b : Fin 128) : EReal :=
  bias (ix1 b) - ∑ f : Fin 64, kernelTerm (rotX angle probe b f) (rotY angle probe b f)
    (query (ix2 n (even f))) (query (ix2 n (odd f))) (raw (ix2 b f))

/-- The score of query `n` for probe `b`, as the reference states it. -/
def referenceScore (n : Fin 4096) (b : Fin 128) : EReal :=
  ∑ f : Fin 64, referenceTerm (rotX angle probe b f) (rotY angle probe b f)
    (query (ix2 n (even f))) (query (ix2 n (odd f))) (raw (ix2 b f)) + bias (ix1 b)

end Cert.Spec
-- ==== Proof.HostRows.lean ====
/-
  What the kernel's own host operations put into the arrays its grid reads, as functions of the arguments.

  Before the grid starts, the program computes the cosines and sines of the angles, lays them out in a row (each
  repeated over a coordinate pair, the sine negated on the even coordinate) and in a column, swaps the probes'
  coordinates within each pair, and splits queries and probes into their even and odd coordinates, transposed. Each
  array is a definition here, read at an index by its `_apply` theorem.
-/
module

public import proofs.«01_k».proof.Proof.Gen.KernelIdeal.Value
public import proofs.«01_k».proof.Proof.Spec
public import Idealize.ShloMosaic.Lib.Pipeline.Value
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem Idealize.ShloMosaic.StableHlo

namespace Cert.KernelIdeal.HostRows

open Cert.KernelIdeal Cert.KernelIdeal.Gen Cert.Pairs

variable (m : (ℓ : Loc nD τ sig) → Buf (Elt Ideal) ℓ)

/-! ## The arrays -/

/-- The row of cosines: coordinate `d` has the cosine of its pair's angle. -/
def cosRow (x2 : FVec Ideal S64 .f32) : FVec Ideal S1x128 .f32 :=
  shapeCast S1x128 (shapeCast S128 (broadcastInDim S64x2 ![0] bcast_S64_S64x2_0 (Host.cos x2)) shapeCasts_S64x2_S128)
    shapeCasts_S128_S1x128

/-- The row of sines, negated on the even coordinates. -/
def sinRow (x2 : FVec Ideal S64 .f32) : FVec Ideal S1x128 .f32 :=
  shapeCast S1x128 (concatenate S64x2 1
    [⟨S64x1, broadcastInDim S64x1 ![0] bcast_S64_S64x1_0 (Host.negf (Host.sin x2))⟩,
     ⟨S64x1, broadcastInDim S64x1 ![0] bcast_S64_S64x1_0 (Host.sin x2)⟩]
    concatenates_S64x1_S64x1_S64x2_d1) shapeCasts_S64x2_S1x128

/-- The probes with the two coordinates of each pair swapped. -/
def swapped (x3 : FVec Ideal S128x128 .f32) : FVec Ideal S128x128 .f32 :=
  shapeCast S128x128 (Host.reverse [2] (shapeCast S128x64x2 x3 shapeCasts_S128x128_S128x64x2))
    shapeCasts_S128x64x2_S128x128

/-- The queries' even coordinates, one row per pair. -/
def queryX (x0 : FVec Ideal S4096x128 .f32) : FVec Ideal S64x4096 .f32 :=
  transpose S64x4096 [1, 0] (shapeCast S4096x64 (extractStridedSlice S4096x64x1 ![0, 0, 0]
    (shapeCast S4096x64x2 x0 shapeCasts_S4096x128_S4096x64x2) slices_S4096x64x2_S4096x64x1_0_0_0)
    shapeCasts_S4096x64x1_S4096x64) transposes_S4096x64_S64x4096_1_0

/-- The queries' odd coordinates, one row per pair. -/
def queryY (x0 : FVec Ideal S4096x128 .f32) : FVec Ideal S64x4096 .f32 :=
  transpose S64x4096 [1, 0] (shapeCast S4096x64 (extractStridedSlice S4096x64x1 ![0, 0, 1]
    (shapeCast S4096x64x2 x0 shapeCasts_S4096x128_S4096x64x2) slices_S4096x64x2_S4096x64x1_0_0_1)
    shapeCasts_S4096x64x1_S4096x64) transposes_S4096x64_S64x4096_1_0

/-- The probes' even coordinates, one row per pair. -/
def probeX (x3 : FVec Ideal S128x128 .f32) : FVec Ideal S64x128 .f32 :=
  transpose S64x128 [1, 0] (shapeCast S128x64 (extractStridedSlice S128x64x1 ![0, 0, 0]
    (shapeCast S128x64x2 x3 shapeCasts_S128x128_S128x64x2) slices_S128x64x2_S128x64x1_0_0_0)
    shapeCasts_S128x64x1_S128x64) transposes_S128x64_S64x128_1_0

/-- The probes' odd coordinates, one row per pair. -/
def probeY (x3 : FVec Ideal S128x128 .f32) : FVec Ideal S64x128 .f32 :=
  transpose S64x128 [1, 0] (shapeCast S128x64 (extractStridedSlice S128x64x1 ![0, 0, 1]
    (shapeCast S128x64x2 x3 shapeCasts_S128x128_S128x64x2) slices_S128x64x2_S128x64x1_0_0_1)
    shapeCasts_S128x64x1_S128x64) transposes_S128x64_S64x128_1_0

/-- The column of cosines. -/
def cosCol (x2 : FVec Ideal S64 .f32) : FVec Ideal S64x1 .f32 := shapeCast S64x1 (Host.cos x2) shapeCasts_S64_S64x1

/-- The column of sines. -/
def sinCol (x2 : FVec Ideal S64 .f32) : FVec Ideal S64x1 .f32 := shapeCast S64x1 (Host.sin x2) shapeCasts_S64_S64x1

/-- The raw weights, transposed. -/
def weightT (x4 : FVec Ideal S128x64 .f32) : FVec Ideal S64x128 .f32 :=
  transpose S64x128 [1, 0] x4 transposes_S128x64_S64x128_1_0

/-- The bias as a row. -/
def biasRow (x5 : FVec Ideal S128 .f32) : FVec Ideal S1x128 .f32 := shapeCast S1x128 x5 shapeCasts_S128_S1x128

/-! ## Each window's array when the grid starts -/

/-- The row of cosines is what the program stores. -/
theorem V_cosRow (c : Dev nD) : V m c main_call0_v4 = cosRow (m ((c : Thread nD τ).loc main_arg2)) := by
  show StableHlo.after hostOps0 (fun b => m (c, b)) (Proc.devRef .tc main_call0_v4) = _
  simp only [hostOps0, TRef.binary, TRef.unary, TRef.reshape, TRef.toBuf, TRef.ofBuf, cast_eq]
  after_results_simp
  rfl

/-- The row of sines is what the program stores. -/
theorem V_sinRow (c : Dev nD) : V m c main_call0_v9 = sinRow (m ((c : Thread nD τ).loc main_arg2)) := by
  show StableHlo.after hostOps0 (fun b => m (c, b)) (Proc.devRef .tc main_call0_v9) = _
  simp only [hostOps0, TRef.binary, TRef.unary, TRef.reshape, TRef.toBuf, TRef.ofBuf, cast_eq]
  after_results_simp
  rfl

/-- The swapped probes are what the program stores. -/
theorem V_swapped (c : Dev nD) : V m c main_call0_v12 = swapped (m ((c : Thread nD τ).loc main_arg3)) := by
  show StableHlo.after hostOps0 (fun b => m (c, b)) (Proc.devRef .tc main_call0_v12) = _
  simp only [hostOps0, TRef.binary, TRef.unary, TRef.reshape, TRef.toBuf, TRef.ofBuf, cast_eq]
  after_results_simp
  rfl

/-- The queries' even coordinates are what the program stores. -/
theorem V_queryX (c : Dev nD) : V m c main_call0_v16 = queryX (m ((c : Thread nD τ).loc main_arg0)) := by
  show StableHlo.after hostOps0 (fun b => m (c, b)) (Proc.devRef .tc main_call0_v16) = _
  simp only [hostOps0, TRef.binary, TRef.unary, TRef.reshape, TRef.toBuf, TRef.ofBuf, cast_eq]
  after_results_simp
  rfl

/-- The queries' odd coordinates are what the program stores. -/
theorem V_queryY (c : Dev nD) : V m c main_call0_v19 = queryY (m ((c : Thread nD τ).loc main_arg0)) := by
  show StableHlo.after hostOps0 (fun b => m (c, b)) (Proc.devRef .tc main_call0_v19) = _
  simp only [hostOps0, TRef.binary, TRef.unary, TRef.reshape, TRef.toBuf, TRef.ofBuf, cast_eq]
  after_results_simp
  rfl

/-- The probes' even coordinates are what the program stores. -/
theorem V_probeX (c : Dev nD) : V m c main_call0_v23 = probeX (m ((c : Thread nD τ).loc main_arg3)) := by
  show StableHlo.after hostOps0 (fun b => m (c, b)) (Proc.devRef .tc main_call0_v23) = _
  simp only [hostOps0, TRef.binary, TRef.unary, TRef.reshape, TRef.toBuf, TRef.ofBuf, cast_eq]
  after_results_simp
  rfl

/-- The probes' odd coordinates are what the program stores. -/
theorem V_probeY (c : Dev nD) : V m c main_call0_v26 = probeY (m ((c : Thread nD τ).loc main_arg3)) := by
  show StableHlo.after hostOps0 (fun b => m (c, b)) (Proc.devRef .tc main_call0_v26) = _
  simp only [hostOps0, TRef.binary, TRef.unary, TRef.reshape, TRef.toBuf, TRef.ofBuf, cast_eq]
  after_results_simp
  rfl

/-- The column of cosines is what the program stores. -/
theorem V_cosCol (c : Dev nD) : V m c main_call0_v27 = cosCol (m ((c : Thread nD τ).loc main_arg2)) := by
  show StableHlo.after hostOps0 (fun b => m (c, b)) (Proc.devRef .tc main_call0_v27) = _
  simp only [hostOps0, TRef.binary, TRef.unary, TRef.reshape, TRef.toBuf, TRef.ofBuf, cast_eq]
  after_results_simp
  rfl

/-- The column of sines is what the program stores. -/
theorem V_sinCol (c : Dev nD) : V m c main_call0_v28 = sinCol (m ((c : Thread nD τ).loc main_arg2)) := by
  show StableHlo.after hostOps0 (fun b => m (c, b)) (Proc.devRef .tc main_call0_v28) = _
  simp only [hostOps0, TRef.binary, TRef.unary, TRef.reshape, TRef.toBuf, TRef.ofBuf, cast_eq]
  after_results_simp
  rfl

/-- The transposed raw weights are what the program stores. -/
theorem V_weightT (c : Dev nD) : V m c main_call0_v29 = weightT (m ((c : Thread nD τ).loc main_arg4)) := by
  show StableHlo.after hostOps0 (fun b => m (c, b)) (Proc.devRef .tc main_call0_v29) = _
  simp only [hostOps0, TRef.binary, TRef.unary, TRef.reshape, TRef.toBuf, TRef.ofBuf, cast_eq]
  after_results_simp
  rfl

/-- The bias row is what the program stores. -/
theorem V_biasRow (c : Dev nD) : V m c main_call0_v30 = biasRow (m ((c : Thread nD τ).loc main_arg5)) := by
  show StableHlo.after hostOps0 (fun b => m (c, b)) (Proc.devRef .tc main_call0_v30) = _
  simp only [hostOps0, TRef.binary, TRef.unary, TRef.reshape, TRef.toBuf, TRef.ofBuf, cast_eq]
  after_results_simp
  rfl

/-! ## Each array at an index -/

/-- The row of cosines at coordinate `d`. -/
theorem cosRow_apply (x2 : FVec Ideal S64 .f32) (r : Fin 1) (d : Fin 128) :
    cosRow x2 (ix2 r d) = Ideal.cos (x2 (ix1 (half d))) := by
  unfold cosRow
  pointwise

/-- The row of sines at coordinate `d`. -/
theorem sinRow_apply (x2 : FVec Ideal S64 .f32) (r : Fin 1) (d : Fin 128) :
    sinRow x2 (ix2 r d)
      = if d.val % 2 = 0 then -Ideal.sin (x2 (ix1 (half d))) else Ideal.sin (x2 (ix1 (half d))) := by
  unfold sinRow
  pointwise
  rcases Nat.mod_two_eq_zero_or_one d.val with h | h <;> simp [h]

/-- The swapped probes at coordinate `d`. -/
theorem swapped_apply (x3 : FVec Ideal S128x128 .f32) (b d : Fin 128) :
    swapped x3 (ix2 b d) = if d.val % 2 = 0 then x3 (ix2 b (odd (half d))) else x3 (ix2 b (even (half d))) := by
  unfold swapped
  pointwise
  rcases Nat.mod_two_eq_zero_or_one d.val with h | h <;> simp [h]

/-- The queries' even coordinates at pair `f` of query `n`. -/
theorem queryX_apply (x0 : FVec Ideal S4096x128 .f32) (f : Fin 64) (n : Fin 4096) :
    queryX x0 (ix2 f n) = x0 (ix2 n (even f)) := by
  unfold queryX
  pointwise

/-- The queries' odd coordinates at pair `f` of query `n`. -/
theorem queryY_apply (x0 : FVec Ideal S4096x128 .f32) (f : Fin 64) (n : Fin 4096) :
    queryY x0 (ix2 f n) = x0 (ix2 n (odd f)) := by
  unfold queryY
  pointwise

/-- The probes' even coordinates at pair `f` of probe `b`. -/
theorem probeX_apply (x3 : FVec Ideal S128x128 .f32) (f : Fin 64) (b : Fin 128) :
    probeX x3 (ix2 f b) = x3 (ix2 b (even f)) := by
  unfold probeX
  pointwise

/-- The probes' odd coordinates at pair `f` of probe `b`. -/
theorem probeY_apply (x3 : FVec Ideal S128x128 .f32) (f : Fin 64) (b : Fin 128) :
    probeY x3 (ix2 f b) = x3 (ix2 b (odd f)) := by
  unfold probeY
  pointwise

/-- The column of cosines at pair `f`. -/
theorem cosCol_apply (x2 : FVec Ideal S64 .f32) (f : Fin 64) (r : Fin 1) :
    cosCol x2 (ix2 f r) = Ideal.cos (x2 (ix1 f)) := by
  unfold cosCol
  pointwise

/-- The column of sines at pair `f`. -/
theorem sinCol_apply (x2 : FVec Ideal S64 .f32) (f : Fin 64) (r : Fin 1) :
    sinCol x2 (ix2 f r) = Ideal.sin (x2 (ix1 f)) := by
  unfold sinCol
  pointwise

/-- The transposed raw weights at pair `f` of probe `b`. -/
theorem weightT_apply (x4 : FVec Ideal S128x64 .f32) (f : Fin 64) (b : Fin 128) :
    weightT x4 (ix2 f b) = x4 (ix2 b f) := by
  unfold weightT
  pointwise

/-- The bias row at probe `b`. -/
theorem biasRow_apply (x5 : FVec Ideal S128 .f32) (r : Fin 1) (b : Fin 128) : biasRow x5 (ix2 r b) = x5 (ix1 b) := by
  unfold biasRow
  pointwise

end Cert.KernelIdeal.HostRows
-- ==== Proof.Blocks.lean ====
/-
  What block of its array each window of the grid holds at grid point `t`, read at an index.

  The grid has four points. Point `t` reads the keys' rows from `8192 t` on, the queries' columns from `1024 t` on, and
  every other array whole.
-/
module

public import proofs.«01_k».proof.Proof.HostRows

@[expose] public section

set_option maxRecDepth 16384

noncomputable section

open Idealize.ShloMosaic Idealize.ShloMosaic.TcCoe Idealize.SL.Sem

namespace Cert.KernelIdeal.Blocks

open Cert.KernelIdeal Cert.KernelIdeal.Gen Cert.Pairs Cert.KernelIdeal.HostRows

variable (m : (ℓ : Loc nD τ sig) → Buf (Elt Ideal) ℓ)

/-- There are four grid points. -/
theorem point_lt (t : Fin cfg0.N) : t.val < 4 := t.isLt

/-- The row of the key array that row `i` of point `t`'s block is. -/
abbrev keyRow (t : Fin cfg0.N) (i : Fin 8192) : Fin 32768 := ⟨8192 * t.val + i.val, by have := point_lt t; omega⟩

/-- The row of the query array that row `n` of point `t`'s block is. -/
abbrev queryRow (t : Fin cfg0.N) (n : Fin 1024) : Fin 4096 := ⟨1024 * t.val + n.val, by have := point_lt t; omega⟩

/-! ## Which block each window takes -/

/-- Window 0 takes row block `t`. -/
theorem index0 : ∀ t : Fin cfg0.N, (win0_0.index t 0 : Nat) = t.val ∧ (win0_0.index t 1 : Nat) = 0 :=
  (by decide +kernel : ∀ t : Fin grid0.N, win0_0.index t 0 = t.val ∧ win0_0.index t 1 = 0)

/-- Window 1 takes its array whole. -/
theorem index1 : ∀ t : Fin cfg0.N, (win0_1.index t 0 : Nat) = 0 ∧ (win0_1.index t 1 : Nat) = 0 :=
  (by decide +kernel : ∀ t : Fin grid0.N, win0_1.index t 0 = 0 ∧ win0_1.index t 1 = 0)

/-- Window 2 takes its array whole. -/
theorem index2 : ∀ t : Fin cfg0.N, (win0_2.index t 0 : Nat) = 0 ∧ (win0_2.index t 1 : Nat) = 0 :=
  (by decide +kernel : ∀ t : Fin grid0.N, win0_2.index t 0 = 0 ∧ win0_2.index t 1 = 0)

/-- Window 3 takes its array whole. -/
theorem index3 : ∀ t : Fin cfg0.N, (win0_3.index t 0 : Nat) = 0 ∧ (win0_3.index t 1 : Nat) = 0 :=
  (by decide +kernel : ∀ t : Fin grid0.N, win0_3.index t 0 = 0 ∧ win0_3.index t 1 = 0)

/-- Window 4 takes its array whole. -/
theorem index4 : ∀ t : Fin cfg0.N, (win0_4.index t 0 : Nat) = 0 ∧ (win0_4.index t 1 : Nat) = 0 :=
  (by decide +kernel : ∀ t : Fin grid0.N, win0_4.index t 0 = 0 ∧ win0_4.index t 1 = 0)

/-- Window 5 takes column block `t`. -/
theorem index5 : ∀ t : Fin cfg0.N, (win0_5.index t 0 : Nat) = 0 ∧ (win0_5.index t 1 : Nat) = t.val :=
  (by decide +kernel : ∀ t : Fin grid0.N, win0_5.index t 0 = 0 ∧ win0_5.index t 1 = t.val)

/-- Window 6 takes column block `t`. -/
theorem index6 : ∀ t : Fin cfg0.N, (win0_6.index t 0 : Nat) = 0 ∧ (win0_6.index t 1 : Nat) = t.val :=
  (by decide +kernel : ∀ t : Fin grid0.N, win0_6.index t 0 = 0 ∧ win0_6.index t 1 = t.val)

/-- Window 7 takes its array whole. -/
theorem index7 : ∀ t : Fin cfg0.N, (win0_7.index t 0 : Nat) = 0 ∧ (win0_7.index t 1 : Nat) = 0 :=
  (by decide +kernel : ∀ t : Fin grid0.N, win0_7.index t 0 = 0 ∧ win0_7.index t 1 = 0)

/-- Window 8 takes its array whole. -/
theorem index8 : ∀ t : Fin cfg0.N, (win0_8.index t 0 : Nat) = 0 ∧ (win0_8.index t 1 : Nat) = 0 :=
  (by decide +kernel : ∀ t : Fin grid0.N, win0_8.index t 0 = 0 ∧ win0_8.index t 1 = 0)

/-- Window 9 takes its array whole. -/
theorem index9 : ∀ t : Fin cfg0.N, (win0_9.index t 0 : Nat) = 0 ∧ (win0_9.index t 1 : Nat) = 0 :=
  (by decide +kernel : ∀ t : Fin grid0.N, win0_9.index t 0 = 0 ∧ win0_9.index t 1 = 0)

/-- Window 10 takes its array whole. -/
theorem index10 : ∀ t : Fin cfg0.N, (win0_10.index t 0 : Nat) = 0 ∧ (win0_10.index t 1 : Nat) = 0 :=
  (by decide +kernel : ∀ t : Fin grid0.N, win0_10.index t 0 = 0 ∧ win0_10.index t 1 = 0)

/-- Window 11 takes its array whole. -/
theorem index11 : ∀ t : Fin cfg0.N, (win0_11.index t 0 : Nat) = 0 ∧ (win0_11.index t 1 : Nat) = 0 :=
  (by decide +kernel : ∀ t : Fin grid0.N, win0_11.index t 0 = 0 ∧ win0_11.index t 1 = 0)

/-- Window 12 takes its array whole. -/
theorem index12 : ∀ t : Fin cfg0.N, (win0_12.index t 0 : Nat) = 0 ∧ (win0_12.index t 1 : Nat) = 0 :=
  (by decide +kernel : ∀ t : Fin grid0.N, win0_12.index t 0 = 0 ∧ win0_12.index t 1 = 0)

/-! ## The blocks -/

/-- The keys' block. -/
theorem key_block (c : Dev nD) (t : Fin cfg0.N) (i : Fin 8192) (d : Fin 128) :
    iblk m c 0 t (ix2 i d) = m ((c : Thread nD τ).loc main_arg1) (ix2 (keyRow t i) d) := by
  refine Eq.trans ?_ (congrFun (V_main_arg1 m c) (ix2 (keyRow t i) d))
  show V m c main_arg1 _ = _
  congr 1; funext a; apply Fin.ext
  match a with
  | ⟨0, _⟩ => show win0_0.index t 0 * 8192 + 1 * i.val = 8192 * t.val + i.val; rw [(index0 t).1]; omega
  | ⟨1, _⟩ => show win0_0.index t 1 * 128 + 1 * d.val = d.val; rw [(index0 t).2]; omega

/-- The probes' block. -/
theorem probe_block (c : Dev nD) (t : Fin cfg0.N) (i : Fin 128) (j : Fin 128) :
    iblk m c 1 t (ix2 i j) = m ((c : Thread nD τ).loc main_arg3) (ix2 i j) := by
  refine Eq.trans ?_ (congrFun (V_main_arg3 m c) (ix2 i j))
  show V m c main_arg3 _ = _
  congr 1; funext a; apply Fin.ext
  match a with
  | ⟨0, _⟩ => show win0_1.index t 0 * 128 + 1 * i.val = i.val; rw [(index1 t).1]; omega
  | ⟨1, _⟩ => show win0_1.index t 1 * 128 + 1 * j.val = j.val; rw [(index1 t).2]; omega

/-- The swapped probes' block. -/
theorem swapped_block (c : Dev nD) (t : Fin cfg0.N) (i : Fin 128) (j : Fin 128) :
    iblk m c 2 t (ix2 i j) =
      if j.val % 2 = 0 then m ((c : Thread nD τ).loc main_arg3) (ix2 i (odd (half j)))
      else m ((c : Thread nD τ).loc main_arg3) (ix2 i (even (half j))) := by
  refine Eq.trans ?_ ((congrFun (V_swapped m c) (ix2 i j)).trans (swapped_apply _ i j))
  show V m c main_call0_v12 _ = _
  congr 1; funext a; apply Fin.ext
  match a with
  | ⟨0, _⟩ => show win0_2.index t 0 * 128 + 1 * i.val = i.val; rw [(index2 t).1]; omega
  | ⟨1, _⟩ => show win0_2.index t 1 * 128 + 1 * j.val = j.val; rw [(index2 t).2]; omega

/-- The cosine row's block. -/
theorem cosRow_block (c : Dev nD) (t : Fin cfg0.N) (i : Fin 1) (j : Fin 128) :
    iblk m c 3 t (ix2 i j) = Ideal.cos (m ((c : Thread nD τ).loc main_arg2) (ix1 (half j))) := by
  refine Eq.trans ?_ ((congrFun (V_cosRow m c) (ix2 i j)).trans (cosRow_apply _ i j))
  show V m c main_call0_v4 _ = _
  congr 1; funext a; apply Fin.ext
  match a with
  | ⟨0, _⟩ => show win0_3.index t 0 * 1 + 1 * i.val = i.val; rw [(index3 t).1]; omega
  | ⟨1, _⟩ => show win0_3.index t 1 * 128 + 1 * j.val = j.val; rw [(index3 t).2]; omega

/-- The sine row's block. -/
theorem sinRow_block (c : Dev nD) (t : Fin cfg0.N) (i : Fin 1) (j : Fin 128) :
    iblk m c 4 t (ix2 i j) =
      if j.val % 2 = 0 then -Ideal.sin (m ((c : Thread nD τ).loc main_arg2) (ix1 (half j)))
      else Ideal.sin (m ((c : Thread nD τ).loc main_arg2) (ix1 (half j))) := by
  refine Eq.trans ?_ ((congrFun (V_sinRow m c) (ix2 i j)).trans (sinRow_apply _ i j))
  show V m c main_call0_v9 _ = _
  congr 1; funext a; apply Fin.ext
  match a with
  | ⟨0, _⟩ => show win0_4.index t 0 * 1 + 1 * i.val = i.val; rw [(index4 t).1]; omega
  | ⟨1, _⟩ => show win0_4.index t 1 * 128 + 1 * j.val = j.val; rw [(index4 t).2]; omega

/-- The block of the queries' even coordinates. -/
theorem queryX_block (c : Dev nD) (t : Fin cfg0.N) (f : Fin 64) (n : Fin 1024) :
    iblk m c 5 t (ix2 f n) = m ((c : Thread nD τ).loc main_arg0) (ix2 (queryRow t n) (even f)) := by
  refine Eq.trans ?_ ((congrFun (V_queryX m c) (ix2 f (queryRow t n))).trans (queryX_apply _ f (queryRow t n)))
  show V m c main_call0_v16 _ = _
  congr 1; funext a; apply Fin.ext
  match a with
  | ⟨0, _⟩ => show win0_5.index t 0 * 64 + 1 * f.val = f.val; rw [(index5 t).1]; omega
  | ⟨1, _⟩ => show win0_5.index t 1 * 1024 + 1 * n.val = 1024 * t.val + n.val; rw [(index5 t).2]; omega

/-- The block of the queries' odd coordinates. -/
theorem queryY_block (c : Dev nD) (t : Fin cfg0.N) (f : Fin 64) (n : Fin 1024) :
    iblk m c 6 t (ix2 f n) = m ((c : Thread nD τ).loc main_arg0) (ix2 (queryRow t n) (odd f)) := by
  refine Eq.trans ?_ ((congrFun (V_queryY m c) (ix2 f (queryRow t n))).trans (queryY_apply _ f (queryRow t n)))
  show V m c main_call0_v19 _ = _
  congr 1; funext a; apply Fin.ext
  match a with
  | ⟨0, _⟩ => show win0_6.index t 0 * 64 + 1 * f.val = f.val; rw [(index6 t).1]; omega
  | ⟨1, _⟩ => show win0_6.index t 1 * 1024 + 1 * n.val = 1024 * t.val + n.val; rw [(index6 t).2]; omega

/-- The block of the probes' even coordinates. -/
theorem probeX_block (c : Dev nD) (t : Fin cfg0.N) (i : Fin 64) (j : Fin 128) :
    iblk m c 7 t (ix2 i j) = m ((c : Thread nD τ).loc main_arg3) (ix2 j (even i)) := by
  refine Eq.trans ?_ ((congrFun (V_probeX m c) (ix2 i j)).trans (probeX_apply _ i j))
  show V m c main_call0_v23 _ = _
  congr 1; funext a; apply Fin.ext
  match a with
  | ⟨0, _⟩ => show win0_7.index t 0 * 64 + 1 * i.val = i.val; rw [(index7 t).1]; omega
  | ⟨1, _⟩ => show win0_7.index t 1 * 128 + 1 * j.val = j.val; rw [(index7 t).2]; omega

/-- The block of the probes' odd coordinates. -/
theorem probeY_block (c : Dev nD) (t : Fin cfg0.N) (i : Fin 64) (j : Fin 128) :
    iblk m c 8 t (ix2 i j) = m ((c : Thread nD τ).loc main_arg3) (ix2 j (odd i)) := by
  refine Eq.trans ?_ ((congrFun (V_probeY m c) (ix2 i j)).trans (probeY_apply _ i j))
  show V m c main_call0_v26 _ = _
  congr 1; funext a; apply Fin.ext
  match a with
  | ⟨0, _⟩ => show win0_8.index t 0 * 64 + 1 * i.val = i.val; rw [(index8 t).1]; omega
  | ⟨1, _⟩ => show win0_8.index t 1 * 128 + 1 * j.val = j.val; rw [(index8 t).2]; omega

/-- The cosine column's block. -/
theorem cosCol_block (c : Dev nD) (t : Fin cfg0.N) (i : Fin 64) (j : Fin 1) :
    iblk m c 9 t (ix2 i j) = Ideal.cos (m ((c : Thread nD τ).loc main_arg2) (ix1 i)) := by
  refine Eq.trans ?_ ((congrFun (V_cosCol m c) (ix2 i j)).trans (cosCol_apply _ i j))
  show V m c main_call0_v27 _ = _
  congr 1; funext a; apply Fin.ext
  match a with
  | ⟨0, _⟩ => show win0_9.index t 0 * 64 + 1 * i.val = i.val; rw [(index9 t).1]; omega
  | ⟨1, _⟩ => show win0_9.index t 1 * 1 + 1 * j.val = j.val; rw [(index9 t).2]; omega

/-- The sine column's block. -/
theorem sinCol_block (c : Dev nD) (t : Fin cfg0.N) (i : Fin 64) (j : Fin 1) :
    iblk m c 10 t (ix2 i j) = Ideal.sin (m ((c : Thread nD τ).loc main_arg2) (ix1 i)) := by
  refine Eq.trans ?_ ((congrFun (V_sinCol m c) (ix2 i j)).trans (sinCol_apply _ i j))
  show V m c main_call0_v28 _ = _
  congr 1; funext a; apply Fin.ext
  match a with
  | ⟨0, _⟩ => show win0_10.index t 0 * 64 + 1 * i.val = i.val; rw [(index10 t).1]; omega
  | ⟨1, _⟩ => show win0_10.index t 1 * 1 + 1 * j.val = j.val; rw [(index10 t).2]; omega

/-- The block of the transposed raw weights. -/
theorem weightT_block (c : Dev nD) (t : Fin cfg0.N) (i : Fin 64) (j : Fin 128) :
    iblk m c 11 t (ix2 i j) = m ((c : Thread nD τ).loc main_arg4) (ix2 j i) := by
  refine Eq.trans ?_ ((congrFun (V_weightT m c) (ix2 i j)).trans (weightT_apply _ i j))
  show V m c main_call0_v29 _ = _
  congr 1; funext a; apply Fin.ext
  match a with
  | ⟨0, _⟩ => show win0_11.index t 0 * 64 + 1 * i.val = i.val; rw [(index11 t).1]; omega
  | ⟨1, _⟩ => show win0_11.index t 1 * 128 + 1 * j.val = j.val; rw [(index11 t).2]; omega

/-- The bias row's block. -/
theorem biasRow_block (c : Dev nD) (t : Fin cfg0.N) (i : Fin 1) (j : Fin 128) :
    iblk m c 12 t (ix2 i j) = m ((c : Thread nD τ).loc main_arg5) (ix1 j) := by
  refine Eq.trans ?_ ((congrFun (V_biasRow m c) (ix2 i j)).trans (biasRow_apply _ i j))
  show V m c main_call0_v30 _ = _
  congr 1; funext a; apply Fin.ext
  match a with
  | ⟨0, _⟩ => show win0_12.index t 0 * 1 + 1 * i.val = i.val; rw [(index12 t).1]; omega
  | ⟨1, _⟩ => show win0_12.index t 1 * 128 + 1 * j.val = j.val; rw [(index12 t).2]; omega

end Cert.KernelIdeal.Blocks
-- ==== Proof.KeyArray.lean ====
/-
  The kernel's key scores: what the grid leaves in that result array.

  A grid point's block of the result is the keys' block times the turned probes, so block `t` of the array is block `t`
  of `keyScore`; the four blocks cover the array.
-/
module

public import proofs.«01_k».proof.Proof.BlockValue
public import proofs.«01_k».proof.Proof.Blocks

@[expose] public section

set_option maxRecDepth 16384

noncomputable section

open Idealize.ShloMosaic Idealize.ShloMosaic.TcCoe Idealize.SL.Sem

namespace Cert.KernelIdeal.KeyArray

open Cert.KernelIdeal Cert.KernelIdeal.Gen Cert.KernelIdeal.Value Cert.Pairs Cert.Spec Cert.KernelIdeal.Blocks
  Cert.KernelIdeal.BlockValue

variable (m : (ℓ : Loc nD τ sig) → Buf (Elt Ideal) ℓ)

/-- The key scores of device `c`'s arguments, as an array. -/
def scores (c : Dev nD) : Buf (Elt Ideal) ((c : Thread nD τ).loc main_v0_1) := fun i : S32768x128.Idx =>
  keyScore (m ((c : Thread nD τ).loc main_arg1)) (m ((c : Thread nD τ).loc main_arg2))
    (m ((c : Thread nD τ).loc main_arg3)) (i 0) (i 1)

/-- The zero offsets. -/
theorem hz : (![0, 0] : Fin 2 → Nat) = fun _ => 0 := funext fun a => by fin_cases a <;> rfl

/-- What a grid point computes for the key scores, at an index of its block. -/
theorem block_apply (c : Dev nD) (t : Fin cfg0.N) (i : Fin 8192) (b : Fin 128) :
    k0_pay2 (iblk m c 1 t) (iblk m c 3 t) (iblk m c 2 t) (iblk m c 4 t) (iblk m c 0 t) (ix2 i b)
      = keyScore (m ((c : Thread nD τ).loc main_arg1)) (m ((c : Thread nD τ).loc main_arg2))
          (m ((c : Thread nD τ).loc main_arg3)) (keyRow t i) b := by
  refine (keyBlock_apply _ _ _ _ _ i b).trans (Finset.sum_congr rfl fun d _ => ?_)
  rw [key_block, probe_block, cosRow_block, swapped_block, sinRow_block]
  exact congrArg _ (rot_eq _ _ b d)

/-- The result takes row block `t`. -/
theorem index13 : ∀ t : Fin cfg0.N, (win0_13.index t 0 : Nat) = t.val ∧ (win0_13.index t 1 : Nat) = 0 :=
  (by decide +kernel : ∀ t : Fin grid0.N, win0_13.index t 0 = t.val ∧ win0_13.index t 1 = 0)

/-- The result's blocks are whole: none is cut short at the array's edge. -/
theorem size13 (t : Fin cfg0.N) :
    win0_13.xsize (grid0.coords t) 0 = 8192 ∧ win0_13.xsize (grid0.coords t) 1 = 128 := by
  rcases fin_N0 t with rfl | rfl | rfl | rfl <;> decide +kernel

/-- A whole block cut to its size is the block. -/
theorem cut_apply (t : Fin cfg0.N) (p : FVec Ideal S8192x128 .f32) (j : ((cfg0.win 13).xblock (grid0.coords t)).Idx)
    (b0 : (j 0).val < 8192) (b1 : (j 1).val < 128) :
    (cfg0.win 13).cut (grid0.coords t) p j = p (ix2 ⟨(j 0).val, b0⟩ ⟨(j 1).val, b1⟩) := by
  show p _ = p _
  congr 1; funext a
  match a with
  | ⟨0, _⟩ => rfl
  | ⟨1, _⟩ => rfl

/-- What grid point `t` writes back is block `t` of the key scores. -/
theorem flushed_eq (c : Dev nD) (t : Fin cfg0.N) :
    (dats m 0 c).flushed 13 t = (win0_13.blk t).view.read (Elt Ideal) (scores m c) := by
  rw [flushed13]
  unfold out0_13
  rw [View.canon_unit_zero hz, View.ld_unit_zero hz, View.ld_unit_zero hz, View.ld_unit_zero hz, View.ld_unit_zero hz,
    View.ld_unit_zero hz]
  funext j
  have b0 : (j 0).val < 8192 := lt_of_lt_of_eq (j 0).isLt (size13 t).1
  have b1 : (j 1).val < 128 := lt_of_lt_of_eq (j 1).isLt (size13 t).2
  refine (cut_apply t _ j b0 b1).trans ((block_apply m c t ⟨(j 0).val, b0⟩ ⟨(j 1).val, b1⟩).trans ?_)
  show keyScore _ _ _ _ _ = keyScore _ _ _ _ _
  congr 1 <;> apply Fin.ext
  · show 8192 * t.val + (j 0).val = win0_13.index t 0 * 8192 + 1 * (j 0).val
    rw [(index13 t).1]; omega
  · show (j 1).val = win0_13.index t 1 * 128 + 1 * (j 1).val
    rw [(index13 t).2]; omega

/-- An index of the array is in point `t`'s block when its row is. -/
theorem mem_blk (t : Fin cfg0.N) (i : S32768x128.Idx) :
    i ∈ ((cfg0.win 13).blk t).view.set ↔ t.val * 8192 ≤ (i 0 : Nat) ∧ (i 0 : Nat) < t.val * 8192 + 8192 := by
  show i ∈ ((View.whole main_v0_1).slice (win0_13.rect t)).set ↔ _
  rw [View.set_slice_whole, Rect.mem_set_unit]
  have h1 : (i 1 : Nat) < 128 := (i 1).isLt
  have e : win0_13.index t 0 * win0_13.size 0 = t.val * 8192 ∧ win0_13.xsize (grid0.coords t) 0 = 8192
      ∧ win0_13.index t 1 * win0_13.size 1 = 0 ∧ win0_13.xsize (grid0.coords t) 1 = 128 := by
    rcases fin_N0 t with rfl | rfl | rfl | rfl <;> decide +kernel
  constructor
  · intro h
    have h0 : win0_13.index t 0 * win0_13.size 0 ≤ (i 0 : Nat)
        ∧ (i 0 : Nat) < win0_13.index t 0 * win0_13.size 0 + win0_13.xsize (grid0.coords t) 0 := h 0
    rwa [e.1, e.2.1] at h0
  · intro h a
    match a with
    | ⟨0, _⟩ =>
      show win0_13.index t 0 * win0_13.size 0 ≤ (i 0 : Nat)
        ∧ (i 0 : Nat) < win0_13.index t 0 * win0_13.size 0 + win0_13.xsize (grid0.coords t) 0
      rwa [e.1, e.2.1]
    | ⟨1, _⟩ =>
      show win0_13.index t 1 * win0_13.size 1 ≤ (i 1 : Nat)
        ∧ (i 1 : Nat) < win0_13.index t 1 * win0_13.size 1 + win0_13.xsize (grid0.coords t) 1
      rw [e.2.2.1, e.2.2.2]; omega

/-- The four blocks cover the array. -/
theorem cover (i : S32768x128.Idx) :
    ∃ t : Fin cfg0.N, (cfg0.win 13).flush t = true ∧ i ∈ ((cfg0.win 13).blk t).view.set := by
  have h0 : (i 0 : Nat) < 32768 := (i 0).isLt
  have hN : cfg0.N = 4 := N_0
  refine ⟨⟨(i 0 : Nat) / 8192, by omega⟩, flush0_13 _, ?_⟩
  rw [mem_blk]
  dsimp only
  omega

/-- The array ends holding the key scores. -/
theorem final (c : Dev nD) : (dats m 0 c).arrAt 13 cfg0.N = scores m c :=
  (dats m 0 c).arrAt_eq_of_cover 13 (scores m c) (fun t _ => flushed_eq m c t) cover

end Cert.KernelIdeal.KeyArray
-- ==== Proof.QueryArray.lean ====
/-
  The kernel's query scores: what the grid leaves in that result array.

  A grid point's block of the result is the bias less a sum over the pairs, so block `t` of the array is block `t` of
  `kernelScore`; the four blocks cover the array.
-/
module

public import proofs.«01_k».proof.Proof.BlockValue
public import proofs.«01_k».proof.Proof.Blocks

@[expose] public section

set_option maxRecDepth 16384

noncomputable section

open Idealize.ShloMosaic Idealize.ShloMosaic.TcCoe Idealize.SL.Sem

namespace Cert.KernelIdeal.QueryArray

open Cert.KernelIdeal Cert.KernelIdeal.Gen Cert.KernelIdeal.Value Cert.Pairs Cert.Spec Cert.KernelIdeal.Blocks
  Cert.KernelIdeal.BlockValue

variable (m : (ℓ : Loc nD τ sig) → Buf (Elt Ideal) ℓ)

/-- The query scores of device `c`'s arguments, as an array. -/
def scores (c : Dev nD) : Buf (Elt Ideal) ((c : Thread nD τ).loc main_v0_0) := fun i : S4096x128.Idx =>
  kernelScore (m ((c : Thread nD τ).loc main_arg0)) (m ((c : Thread nD τ).loc main_arg2))
    (m ((c : Thread nD τ).loc main_arg3)) (m ((c : Thread nD τ).loc main_arg4)) (m ((c : Thread nD τ).loc main_arg5))
    (i 0) (i 1)

/-- The zero offsets. -/
theorem hz : (![0, 0] : Fin 2 → Nat) = fun _ => 0 := funext fun a => by fin_cases a <;> rfl

/-- What a grid point computes for the query scores, at an index of its block. -/
theorem block_apply (c : Dev nD) (t : Fin cfg0.N) (n : Fin 1024) (b : Fin 128) :
    k0_pay1 (k0_pay10 (k0_pay7 (iblk m c 9 t) (iblk m c 10 t) (iblk m c 7 t) (iblk m c 8 t))
        (k0_pay8 (iblk m c 9 t) (iblk m c 10 t) (iblk m c 7 t) (iblk m c 8 t)) (k0_pay9 (iblk m c 11 t))
        (iblk m c 5 t) (iblk m c 6 t)) (k0_pay11 (iblk m c 12 t)) (ix2 n b)
      = kernelScore (m ((c : Thread nD τ).loc main_arg0)) (m ((c : Thread nD τ).loc main_arg2))
          (m ((c : Thread nD τ).loc main_arg3)) (m ((c : Thread nD τ).loc main_arg4))
          (m ((c : Thread nD τ).loc main_arg5)) (queryRow t n) b := by
  refine (queryBlock_apply _ _ _ _ _ _ _ _ n b).trans ?_
  unfold kernelScore
  rw [biasRow_block]
  refine congrArg _ (Finset.sum_congr rfl fun f _ => ?_)
  rw [probeX_block, probeY_block, cosCol_block, sinCol_block, queryX_block, queryY_block, weightT_block]
  rfl

/-- The result takes row block `t`. -/
theorem index14 : ∀ t : Fin cfg0.N, (win0_14.index t 0 : Nat) = t.val ∧ (win0_14.index t 1 : Nat) = 0 :=
  (by decide +kernel : ∀ t : Fin grid0.N, win0_14.index t 0 = t.val ∧ win0_14.index t 1 = 0)

/-- The result's blocks are whole: none is cut short at the array's edge. -/
theorem size14 (t : Fin cfg0.N) :
    win0_14.xsize (grid0.coords t) 0 = 1024 ∧ win0_14.xsize (grid0.coords t) 1 = 128 := by
  rcases fin_N0 t with rfl | rfl | rfl | rfl <;> decide +kernel

/-- A whole block cut to its size is the block. -/
theorem cut_apply (t : Fin cfg0.N) (p : FVec Ideal S1024x128 .f32) (j : ((cfg0.win 14).xblock (grid0.coords t)).Idx)
    (b0 : (j 0).val < 1024) (b1 : (j 1).val < 128) :
    (cfg0.win 14).cut (grid0.coords t) p j = p (ix2 ⟨(j 0).val, b0⟩ ⟨(j 1).val, b1⟩) := by
  show p _ = p _
  congr 1; funext a
  match a with
  | ⟨0, _⟩ => rfl
  | ⟨1, _⟩ => rfl

/-- What the body leaves in the result's block, from the blocks it read. -/
theorem out_eq (x0 : Vec Ideal S8192x128 .f32) (x1 x2 : Vec Ideal S128x128 .f32) (x3 x4 : Vec Ideal S1x128 .f32)
    (x5 x6 : Vec Ideal S64x1024 .f32) (x7 x8 : Vec Ideal S64x128 .f32) (x9 x10 : Vec Ideal S64x1 .f32)
    (x11 : Vec Ideal S64x128 .f32) (x12 : Vec Ideal S1x128 .f32) :
    out0_14 x0 x1 x2 x3 x4 x5 x6 x7 x8 x9 x10 x11 x12
      = k0_pay1 (k0_pay10 (k0_pay7 x9 x10 x7 x8) (k0_pay8 x9 x10 x7 x8) (k0_pay9 x11) x5 x6) (k0_pay11 x12) := by
  unfold out0_14
  rw [View.canon_unit_zero hz, View.ld_unit_zero hz, View.ld_unit_zero hz, View.ld_unit_zero hz, View.ld_unit_zero hz,
    View.ld_unit_zero hz, View.ld_unit_zero hz, View.ld_unit_zero hz, View.ld_unit_zero hz]

/-- What grid point `t` writes back is block `t` of the query scores. -/
theorem flushed_eq (c : Dev nD) (t : Fin cfg0.N) :
    (dats m 0 c).flushed 14 t = (win0_14.blk t).view.read (Elt Ideal) (scores m c) := by
  rw [flushed14, out_eq]
  funext j
  have b0 : (j 0).val < 1024 := lt_of_lt_of_eq (j 0).isLt (size14 t).1
  have b1 : (j 1).val < 128 := lt_of_lt_of_eq (j 1).isLt (size14 t).2
  rw [cut_apply t _ j b0 b1]
  refine ((block_apply m c t ⟨(j 0).val, b0⟩ ⟨(j 1).val, b1⟩).trans ?_)
  show kernelScore _ _ _ _ _ _ _ = kernelScore _ _ _ _ _ _ _
  congr 1 <;> apply Fin.ext
  · show 1024 * t.val + (j 0).val = win0_14.index t 0 * 1024 + 1 * (j 0).val
    rw [(index14 t).1]; omega
  · show (j 1).val = win0_14.index t 1 * 128 + 1 * (j 1).val
    rw [(index14 t).2]; omega

/-- An index of the array is in point `t`'s block when its row is. -/
theorem mem_blk (t : Fin cfg0.N) (i : S4096x128.Idx) :
    i ∈ ((cfg0.win 14).blk t).view.set ↔ t.val * 1024 ≤ (i 0 : Nat) ∧ (i 0 : Nat) < t.val * 1024 + 1024 := by
  show i ∈ ((View.whole main_v0_0).slice (win0_14.rect t)).set ↔ _
  rw [View.set_slice_whole, Rect.mem_set_unit]
  have h1 : (i 1 : Nat) < 128 := (i 1).isLt
  have e : win0_14.index t 0 * win0_14.size 0 = t.val * 1024 ∧ win0_14.xsize (grid0.coords t) 0 = 1024
      ∧ win0_14.index t 1 * win0_14.size 1 = 0 ∧ win0_14.xsize (grid0.coords t) 1 = 128 := by
    rcases fin_N0 t with rfl | rfl | rfl | rfl <;> decide +kernel
  constructor
  · intro h
    have h0 : win0_14.index t 0 * win0_14.size 0 ≤ (i 0 : Nat)
        ∧ (i 0 : Nat) < win0_14.index t 0 * win0_14.size 0 + win0_14.xsize (grid0.coords t) 0 := h 0
    rwa [e.1, e.2.1] at h0
  · intro h a
    match a with
    | ⟨0, _⟩ =>
      show win0_14.index t 0 * win0_14.size 0 ≤ (i 0 : Nat)
        ∧ (i 0 : Nat) < win0_14.index t 0 * win0_14.size 0 + win0_14.xsize (grid0.coords t) 0
      rwa [e.1, e.2.1]
    | ⟨1, _⟩ =>
      show win0_14.index t 1 * win0_14.size 1 ≤ (i 1 : Nat)
        ∧ (i 1 : Nat) < win0_14.index t 1 * win0_14.size 1 + win0_14.xsize (grid0.coords t) 1
      rw [e.2.2.1, e.2.2.2]; omega

/-- The four blocks cover the array. -/
theorem cover (i : S4096x128.Idx) :
    ∃ t : Fin cfg0.N, (cfg0.win 14).flush t = true ∧ i ∈ ((cfg0.win 14).blk t).view.set := by
  have h0 : (i 0 : Nat) < 4096 := (i 0).isLt
  have hN : cfg0.N = 4 := N_0
  refine ⟨⟨(i 0 : Nat) / 1024, by omega⟩, flush0_14 _, ?_⟩
  rw [mem_blk]
  dsimp only
  omega

/-- The array ends holding the query scores. -/
theorem final (c : Dev nD) : (dats m 0 c).arrAt 14 cfg0.N = scores m c :=
  (dats m 0 c).arrAt_eq_of_cover 14 (scores m c) (fun t _ => flushed_eq m c t) cover

end Cert.KernelIdeal.QueryArray
-- ==== Proof.RefValue.lean ====
/-
  What the reference's two results are at an index: the formulas of `Spec`.
-/
module

public import proofs.«01_k».proof.Proof.Gen.ReferenceIdeal.Run
public import proofs.«01_k».proof.Proof.Gen.ReferenceIdeal.Read
public import proofs.«01_k».proof.Proof.Spec

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.Terms Cert.Pairs Cert.Spec Cert.ReferenceIdeal.Read

variable (query : FVec Ideal S4096x128 .f32) (key : FVec Ideal S32768x128 .f32) (angle : FVec Ideal S64 .f32)
  (probe : FVec Ideal S128x128 .f32) (raw : FVec Ideal S128x64 .f32) (bias : FVec Ideal S128 .f32)

/-- The turned probes' first coordinates. -/
theorem rotX_apply (b : Fin 128) (f : Fin 64) :
    val_main_v13 (F := Ideal) angle probe (ix2 b f) = rotX angle probe b f := by
  unfold val_main_v13 val_main_v7 val_main_v12 val_main_v4 val_main_v9 val_main_v3 val_main_v8 val_main_v2
    val_main_v6 val_main_v5 val_main_v11 val_main_v10 val_main_v0 val_main_v1
  pointwise
  rfl

/-- The turned probes' second coordinates. -/
theorem rotY_apply (b : Fin 128) (f : Fin 64) :
    val_main_v24 (F := Ideal) angle probe (ix2 b f) = rotY angle probe b f := by
  unfold val_main_v24 val_main_v18 val_main_v23 val_main_v15 val_main_v20 val_main_v14 val_main_v19 val_main_v2
    val_main_v17 val_main_v16 val_main_v22 val_main_v21 val_main_v0 val_main_v1
  pointwise
  rfl

/-- The turned probes. -/
theorem rot_apply (b d : Fin 128) : val_main_v28 (F := Ideal) angle probe (ix2 b d) = rot angle probe b d := by
  have hx := rotX_apply angle probe b (half d)
  have hy := rotY_apply angle probe b (half d)
  unfold val_main_v28 val_main_v27 val_main_v25 val_main_v26 rot
  generalize val_main_v13 (F := Ideal) angle probe = x at *
  generalize val_main_v24 (F := Ideal) angle probe = y at *
  pointwise
  rcases Nat.mod_two_eq_zero_or_one d.val with h | h <;> simp [h, hx, hy]

/-- The reference's key scores. -/
theorem key_apply (i : Fin 32768) (b : Fin 128) :
    val_main_v30 (F := Ideal) key angle probe (ix2 i b) = keyScore key angle probe i b := by
  have h := rot_apply angle probe b
  unfold val_main_v30 val_main_v29 keyScore
  generalize val_main_v28 (F := Ideal) angle probe = r at *
  pointwise
  exact Finset.sum_congr rfl fun d _ => by rw [h]

/-- The reference's weights, negated. -/
theorem weight_apply (b : Fin 128) (f : Fin 64) :
    val_main_v44 (F := Ideal) raw (ix2 b f) = -(max (raw (ix2 b f)) 0
      + Ideal.log1p (Ideal.exp (-max (raw (ix2 b f)) (-raw (ix2 b f))))) := by
  unfold val_main_v44 val_main_v43 val_main_call0_v11 val_main_call0_v10 val_main_call0_v9 val_main_call0_v8
    val_main_call0_v7 val_main_call0_v6 val_main_call0_v5 val_main_call0_v4 val_main_call0_v3 val_main_call0_v2
    val_main_call0_v1 val_main_call0_v0 val_main_call0_cst
  pointwise
  rw [if_neg (fun h => h rfl)]
  rfl

/-- The distance between the turned probe `b` and query `n` in pair `f`. -/
theorem dist_apply (n : Fin 4096) (b : Fin 128) (f : Fin 64) :
    val_main_v42 (F := Ideal) query angle probe (ix3 n b f) = Ideal.sqrt
      (((rotX angle probe b f - query (ix2 n (even f))) * (rotX angle probe b f - query (ix2 n (even f)))
        + (rotY angle probe b f - query (ix2 n (odd f))) * (rotY angle probe b f - query (ix2 n (odd f)))) + eps) := by
  have hr := rot_apply angle probe b
  unfold val_main_v42 val_main_v41 val_main_v40 val_main_cst_0 val_main_v39 val_main_cst val_main_v38 val_main_v37
    val_main_v36 val_main_v35 val_main_v34 val_main_v33 val_main_v32 val_main_v31
  generalize val_main_v28 (F := Ideal) angle probe = r at *
  pointwise
  rw [Fin.sum_univ_two]
  show Ideal.sqrt (((r (ix2 b (even f)) - query (ix2 n (even f))) * (r (ix2 b (even f)) - query (ix2 n (even f)))
    + (r (ix2 b (odd f)) - query (ix2 n (odd f))) * (r (ix2 b (odd f)) - query (ix2 n (odd f)))) + eps) = _
  rw [hr, hr, rot_even, rot_odd]

/-- The reference's query scores. -/
theorem query_apply (n : Fin 4096) (b : Fin 128) :
    val_main_v51 (F := Ideal) query angle probe raw bias (ix2 n b)
      = referenceScore query angle probe raw bias n b := by
  have hd := dist_apply query angle probe n b
  have hw := weight_apply raw b
  unfold val_main_v51 val_main_v50 val_main_v49 val_main_v48 val_main_cst_1 val_main_v47 val_main_v46 val_main_v45
    referenceScore referenceTerm
  generalize val_main_v42 (F := Ideal) query angle probe = d at *
  generalize val_main_v44 (F := Ideal) raw = w at *
  pointwise
  simp only [hd, hw]

end Cert.ReferenceIdeal.RefValue
-- ==== Proof.Equation.lean ====
/-
  The kernel's query score and the reference's are equal where the arguments are real and the raw weights at least -31.

  There every term of either sum is real, and the kernel's is the reference's negated (`kernelTerm_coe`,
  `referenceTerm_coe`). The bias may be anything: it is added to or reduced by real numbers.
-/
module

public import proofs.«01_k».proof.Proof.Spec

@[expose] public section

noncomputable section

open Idealize.ShloMosaic Cert.Terms Cert.Pairs

namespace Cert.Spec

variable (query : FVec Ideal ⟨2, ![4096, 128]⟩ .f32) (angle : FVec Ideal ⟨1, ![64]⟩ .f32)
  (probe : FVec Ideal ⟨2, ![128, 128]⟩ .f32) (raw : FVec Ideal ⟨2, ![128, 64]⟩ .f32) (bias : FVec Ideal ⟨1, ![128]⟩ .f32)

/-- A real probe turned by a real angle has real first coordinates. -/
theorem rotX_real (ha : ∀ i, ∃ r : ℝ, angle i = r) (hp : ∀ i, ∃ r : ℝ, probe i = r) (b : Fin 128) (f : Fin 64) :
    ∃ r : ℝ, rotX angle probe b f = r := by
  obtain ⟨a, ea⟩ := ha (ix1 f)
  obtain ⟨p, ep⟩ := hp (ix2 b (even f))
  obtain ⟨q, eq⟩ := hp (ix2 b (odd f))
  refine ⟨p * Real.cos a - q * Real.sin a, ?_⟩
  unfold rotX
  rw [ea, ep, eq, Ideal.cos_coe, Ideal.sin_coe]
  push_cast
  rfl

/-- A real probe turned by a real angle has real second coordinates. -/
theorem rotY_real (ha : ∀ i, ∃ r : ℝ, angle i = r) (hp : ∀ i, ∃ r : ℝ, probe i = r) (b : Fin 128) (f : Fin 64) :
    ∃ r : ℝ, rotY angle probe b f = r := by
  obtain ⟨a, ea⟩ := ha (ix1 f)
  obtain ⟨p, ep⟩ := hp (ix2 b (even f))
  obtain ⟨q, eq⟩ := hp (ix2 b (odd f))
  refine ⟨p * Real.sin a + q * Real.cos a, ?_⟩
  unfold rotY
  rw [ea, ep, eq, Ideal.cos_coe, Ideal.sin_coe]
  push_cast
  rfl

/-- In every pair, the kernel's term is a real number and the reference's term is that number negated. -/
theorem terms_neg (hq : ∀ i, ∃ r : ℝ, query i = r) (ha : ∀ i, ∃ r : ℝ, angle i = r) (hp : ∀ i, ∃ r : ℝ, probe i = r)
    (hw : ∀ i, ∃ r : ℝ, raw i = r ∧ -31 ≤ r) (n : Fin 4096) (b : Fin 128) (f : Fin 64) :
    ∃ r : ℝ,
      kernelTerm (rotX angle probe b f) (rotY angle probe b f) (query (ix2 n (even f))) (query (ix2 n (odd f)))
          (raw (ix2 b f)) = (r : EReal)
        ∧ referenceTerm (rotX angle probe b f) (rotY angle probe b f) (query (ix2 n (even f))) (query (ix2 n (odd f)))
          (raw (ix2 b f)) = ((-r : ℝ) : EReal) := by
  obtain ⟨px, ex⟩ := rotX_real angle probe ha hp b f
  obtain ⟨py, ey⟩ := rotY_real angle probe ha hp b f
  obtain ⟨qx, ux⟩ := hq (ix2 n (even f))
  obtain ⟨qy, uy⟩ := hq (ix2 n (odd f))
  obtain ⟨x, e, hx⟩ := hw (ix2 b f)
  rw [ex, ey, ux, uy, e]
  exact ⟨_, kernelTerm_coe px py qx qy hx, referenceTerm_coe ..⟩

/-- The two query scores are equal. -/
theorem scores_eq (hq : ∀ i, ∃ r : ℝ, query i = r) (ha : ∀ i, ∃ r : ℝ, angle i = r) (hp : ∀ i, ∃ r : ℝ, probe i = r)
    (hw : ∀ i, ∃ r : ℝ, raw i = r ∧ -31 ≤ r) (n : Fin 4096) (b : Fin 128) :
    kernelScore query angle probe raw bias n b = referenceScore query angle probe raw bias n b := by
  choose r hk hr using terms_neg query angle probe raw hq ha hp hw n b
  unfold kernelScore referenceScore
  rw [Finset.sum_congr rfl fun f _ => hk f, Finset.sum_congr rfl fun f _ => hr f]
  exact bias_sub_sum _ _

end Cert.Spec
-- ==== Proof.Tame.lean ====
/-
  The precondition, read: the queries, angles, probes and raw weights are real numbers, the raw weights at least -31.
-/
module

public import proofs.«01_k».proof.Defs
public import proofs.«01_k».proof.Proof.Terms
public import Idealize.ShloMosaic.Lib.Pointwise
public import Idealize.ShloMosaic.PureOps.Ideal.Laws

@[expose] public section

noncomputable section

open Idealize.ShloMosaic Cert.Terms

namespace Cert.Pre_tame

/-- A scalar broadcasts to each of the four shapes. -/
theorem facts : Facts := ⟨by decide, by decide, by decide, by decide⟩

variable [Facts] (query : FVec Ideal S4096x128 .f32) (key : FVec Ideal S32768x128 .f32) (angle : FVec Ideal S64 .f32)
  (probe : FVec Ideal S128x128 .f32) (raw : FVec Ideal S128x64 .f32) (bias : FVec Ideal S128 .f32)

/-- A strict comparison's bit is set only where it holds. -/
theorem lt_of_mask {a b : EReal} (h : Ideal.cmp .olt a b = 1#1) : a < b := by
  by_contra hn
  simp [Ideal.cmp, hn] at h

/-- A comparison's bit is set only where it holds. -/
theorem le_of_mask {a b : EReal} (h : Ideal.cmp .oge a b = 1#1) : b ≤ a := by
  by_contra hn
  simp [Ideal.cmp, hn] at h

/-- An absolute value below infinity makes a real number. -/
theorem real_of_mask {a : EReal} (h : Ideal.cmp .olt (max a (-a)) (Ideal.ofBits .f32 0x7F800000#32) = 1#1) :
    ∃ r : ℝ, a = r := by
  refine exists_coe ?_
  rw [← top_eq]
  exact lt_of_mask h

/-- The first mask is set only where the query is real. -/
theorem query_real (h : (fn query key angle probe raw bias).1 = fun _ => 1#1) (i : S4096x128.Idx) :
    ∃ r : ℝ, query i = r := real_of_mask (congrFun h i)

/-- The second mask is set only where the angle is real. -/
theorem angle_real (h : (fn query key angle probe raw bias).2.1 = fun _ => 1#1) (i : S64.Idx) :
    ∃ r : ℝ, angle i = r := real_of_mask (congrFun h i)

/-- The third mask is set only where the probe is real. -/
theorem probe_real (h : (fn query key angle probe raw bias).2.2.1 = fun _ => 1#1) (i : S128x128.Idx) :
    ∃ r : ℝ, probe i = r := real_of_mask (congrFun h i)

/-- The last two masks are set only where the raw weight is a real number that is at least -31. -/
theorem raw_real (h : (fn query key angle probe raw bias).2.2.2.1 = fun _ => 1#1)
    (h' : (fn query key angle probe raw bias).2.2.2.2 = fun _ => 1#1) (i : S128x64.Idx) :
    ∃ r : ℝ, raw i = r ∧ -31 ≤ r := by
  have hlo : Ideal.ofBits .f32 0xC1F80000#32 ≤ raw i := le_of_mask (congrFun h i)
  have hhi : raw i < Ideal.ofBits .f32 0x7F800000#32 := lt_of_mask (congrFun h' i)
  rw [neg_31_eq] at hlo
  rw [top_eq] at hhi
  induction hr : raw i using EReal.rec with
  | bot => rw [hr] at hlo; exact absurd hlo (not_le.mpr (EReal.bot_lt_coe _))
  | top => rw [hr] at hhi; exact absurd hhi (lt_irrefl _)
  | coe r => rw [hr] at hlo; exact ⟨r, rfl, EReal.coe_le_coe_iff.mp hlo⟩

end Cert.Pre_tame
-- ==== Proof.lean ====
/-
  The certificate: the kernel runs, leaves its arguments and semaphores as it found them, and computes the reference's
  two results.

  The key scores agree whatever the arguments are; the query scores agree where the precondition holds (`Spec.scores_eq`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KeyArray
public import proofs.«01_k».proof.Proof.QueryArray
public import proofs.«01_k».proof.Proof.RefValue
public import proofs.«01_k».proof.Proof.Equation
public import proofs.«01_k».proof.Proof.Tame
public import Idealize.ShloMosaic.Lib.Quiescent
public import Idealize.ShloMosaic.Adequacy
public import Idealize.ShloMosaic.Init

@[expose] public section

noncomputable section

namespace Cert.Proof

open Idealize.ShloMosaic Idealize.SL.Sem Cert.Spec

/-- The shape facts the precondition states. -/
instance tame_facts : Cert.Pre_tame.Facts := Cert.Pre_tame.facts

/-- An index of a two-axis array is the pair of its coordinates. -/
theorem ix2_coords {a b : Nat} (i : (⟨2, ![a, b]⟩ : Shape).Idx) : ix2 (i 0) (i 1) = i := by
  funext k
  match k with
  | ⟨0, _⟩ => rfl
  | ⟨1, _⟩ => rfl

/-- The printed kernel runs and leaves its arguments and semaphores as it found them. -/
theorem frame_kernel : Cert.quiescent_Kernel := fun m g _ => Cert.Kernel.Gen.frame m g

/-- So does the kernel over the extended reals, -/
theorem frame_ideal : Cert.quiescent_KernelIdeal := fun m g _ => Cert.KernelIdeal.Gen.frame m g

/-- also where the precondition holds. -/
theorem frame_ideal_tame : Cert.quiescent_KernelIdeal_pre_tame := fun m g _ => Cert.KernelIdeal.Gen.frame m g

/-- So does the reference: it has no semaphore. -/
theorem frame_reference : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- The same where the precondition holds. -/
theorem frame_reference_tame : Cert.quiescent_ReferenceIdeal_pre_tame := fun m g _ => frame_reference m g trivial

section Agree

variable (m : (ℓ : Loc Cert.KernelIdeal.nD Cert.KernelIdeal.τ Cert.KernelIdeal.sig) → Buf (Elt Ideal) ℓ)

/-- The reference's key scores, of the kernel's arguments, are the kernel's. -/
theorem key_agree (c : Dev Cert.KernelIdeal.nD) :
    Cert.ReferenceIdeal.Read.val_main_v30 (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.KeyArray.scores m c := by
  funext i
  refine Eq.trans ?_ (Cert.ReferenceIdeal.RefValue.key_apply _ _ _ (i 0) (i 1))
  exact congrArg _ (ix2_coords i).symm

/-- The reference's query scores, of the kernel's arguments, are the kernel's where the precondition holds. -/
theorem query_agree (h : Cert.Pre_KernelIdeal_tame m) (c : Dev Cert.KernelIdeal.nD) :
    Cert.ReferenceIdeal.Read.val_main_v51 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.QueryArray.scores m c := by
  obtain ⟨hq, ha, hp, hlo, hhi⟩ := h c
  funext i
  refine Eq.trans ?_ (scores_eq _ _ _ _ _ (Cert.Pre_tame.query_real _ _ _ _ _ _ hq)
    (Cert.Pre_tame.angle_real _ _ _ _ _ _ ha) (Cert.Pre_tame.probe_real _ _ _ _ _ _ hp)
    (Cert.Pre_tame.raw_real _ _ _ _ _ _ hlo hhi) (i 0) (i 1)).symm
  refine Eq.trans ?_ (Cert.ReferenceIdeal.RefValue.query_apply _ _ _ _ _ (i 0) (i 1))
  exact congrArg _ (ix2_coords i).symm

end Agree

/-- The kernel and the reference, from arguments that agree and meet the precondition, end with equal results: the query
scores and the key scores. -/
theorem algebraic : Cert.algebraic_KernelIdeal_ReferenceIdeal_pre_tame := by
  intro m g m' g' htame hagree
  refine ⟨fun c => Cert.KernelIdeal.QueryArray.scores m c, fun c => Cert.KernelIdeal.KeyArray.scores m c, ?_, ?_⟩
  · exact (θ_run Cert.KernelIdeal.defs _ _).mono
      (fun _ h c => ⟨(h c).2.1.trans (Cert.KernelIdeal.QueryArray.final m c),
        (h c).1.trans (Cert.KernelIdeal.KeyArray.final m c), (h c).2.2⟩)
      (Cert.KernelIdeal.Value.run_blocks (F := Ideal) m g)
  · refine (θ_run Cert.ReferenceIdeal.defs _ _).mono (fun _ h c => ⟨(h c).1.trans ?_, (h c).2.1.trans ?_, (h c).2.2⟩)
      (Cert.ReferenceIdeal.Value.run (F := Ideal) m' g')
    · refine (Cert.ReferenceIdeal.Read.val_main_v51_eq m' c).trans (Eq.trans ?_ (query_agree m htame c))
      obtain ⟨e0, _, e2, e3, e4, e5⟩ := hagree c
      rw [e0, e2, e3, e4, e5]
    · refine (Cert.ReferenceIdeal.Read.val_main_v30_eq _ _ _).trans (Eq.trans ?_ (key_agree m c))
      obtain ⟨_, e1, e2, e3, _⟩ := hagree c
      rw [e1, e2, e3]

/-- Everything the certificate claims. -/
theorem claim : Cert.Claim :=
  ⟨Cert.Kernel.Gen.facts, Cert.KernelIdeal.Gen.facts, Cert.ReferenceIdeal.Gen.facts, tame_facts,
    frame_kernel, frame_ideal, frame_ideal_tame, frame_reference, frame_reference_tame, trivial, algebraic⟩

end Cert.Proof

end
